-- ==== Defs.lean ====
def Pre_Dw1 (m : (ℓ : Loc Cert.Dw1.nD Cert.Dw1.τ Cert.Dw1.sig) → Buf (Elt Bits) ℓ) : Prop :=
  True

def Pre_Dw1Ideal (m : (ℓ : Loc Cert.Dw1Ideal.nD Cert.Dw1Ideal.τ Cert.Dw1Ideal.sig) → Buf (Elt Ideal) ℓ) : Prop :=
  True

def Pre_Dw1RefIdeal (m : (ℓ : Loc Cert.Dw1RefIdeal.nD Cert.Dw1RefIdeal.τ Cert.Dw1RefIdeal.sig) → Buf (Elt Ideal) ℓ) : Prop :=
  True

def Pre_Dw2 (m : (ℓ : Loc Cert.Dw2.nD Cert.Dw2.τ Cert.Dw2.sig) → Buf (Elt Bits) ℓ) : Prop :=
  True

def Pre_Dw2Ideal (m : (ℓ : Loc Cert.Dw2Ideal.nD Cert.Dw2Ideal.τ Cert.Dw2Ideal.sig) → Buf (Elt Ideal) ℓ) : Prop :=
  True

def Pre_Dw2RefIdeal (m : (ℓ : Loc Cert.Dw2RefIdeal.nD Cert.Dw2RefIdeal.τ Cert.Dw2RefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxIdeal_dh_scale_is_normal [hPre_dh_scale_is_normal : Cert.Pre_dh_scale_is_normal.Facts] (m : (ℓ : Loc Cert.DxIdeal.nD Cert.DxIdeal.τ Cert.DxIdeal.sig) → Buf (Elt Ideal) ℓ) : Prop :=
  ∀ c : Dev Cert.DxIdeal.nD,
    (Cert.Pre_dh_scale_is_normal.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3))) = (fun _ => 1#1)

def Pre_DxRefIdeal (m : (ℓ : Loc Cert.DxRefIdeal.nD Cert.DxRefIdeal.τ Cert.DxRefIdeal.sig) → Buf (Elt Ideal) ℓ) : Prop :=
  True

def Pre_DxRefIdeal_dh_scale_is_normal [hPre_dh_scale_is_normal : Cert.Pre_dh_scale_is_normal.Facts] (m : (ℓ : Loc Cert.DxRefIdeal.nD Cert.DxRefIdeal.τ Cert.DxRefIdeal.sig) → Buf (Elt Ideal) ℓ) : Prop :=
  ∀ c : Dev Cert.DxRefIdeal.nD,
    (Cert.Pre_dh_scale_is_normal.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3))) = (fun _ => 1#1)

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Dy (m : (ℓ : Loc Cert.Dy.nD Cert.Dy.τ Cert.Dy.sig) → Buf (Elt Bits) ℓ) : Prop :=
  True

def Pre_DyIdeal (m : (ℓ : Loc Cert.DyIdeal.nD Cert.DyIdeal.τ Cert.DyIdeal.sig) → Buf (Elt Ideal) ℓ) : Prop :=
  True

def Pre_DyIdeal_dy_scale_is_normal [hPre_dy_scale_is_normal : Cert.Pre_dy_scale_is_normal.Facts] (m : (ℓ : Loc Cert.DyIdeal.nD Cert.DyIdeal.τ Cert.DyIdeal.sig) → Buf (Elt Ideal) ℓ) : Prop :=
  ∀ c : Dev Cert.DyIdeal.nD,
    (Cert.Pre_dy_scale_is_normal.fn (F := Ideal) (m ((c.tc : Thread Cert.DyIdeal.nD Cert.DyIdeal.τ).loc Cert.DyIdeal.main_arg0))) = (fun _ => 1#1)

def Pre_DyRefIdeal (m : (ℓ : Loc Cert.DyRefIdeal.nD Cert.DyRefIdeal.τ Cert.DyRefIdeal.sig) → Buf (Elt Ideal) ℓ) : Prop :=
  True

def Pre_DyRefIdeal_dy_scale_is_normal [hPre_dy_scale_is_normal : Cert.Pre_dy_scale_is_normal.Facts] (m : (ℓ : Loc Cert.DyRefIdeal.nD Cert.DyRefIdeal.τ Cert.DyRefIdeal.sig) → Buf (Elt Ideal) ℓ) : Prop :=
  ∀ c : Dev Cert.DyRefIdeal.nD,
    (Cert.Pre_dy_scale_is_normal.fn (F := Ideal) (m ((c.tc : Thread Cert.DyRefIdeal.nD Cert.DyRefIdeal.τ).loc Cert.DyRefIdeal.main_arg0))) = (fun _ => 1#1)

def quiescent_Dw1 [hDw1 : Cert.Dw1.Facts] : Prop :=
  ∀ (m : (ℓ : Loc Cert.Dw1.nD Cert.Dw1.τ Cert.Dw1.sig) → Buf (Elt Bits) ℓ) (g : Dev Cert.Dw1.nD → PrngReg), Pre_Dw1 m →
    θ_run (Cert.Dw1.defs (F := Bits)) (onTc (τ := Cert.Dw1.τ) (Cert.Dw1.main (F := Bits))) ⟨m, fun _ => 0, g⟩ (fun r => (∀ c : Dev Cert.Dw1.nD,
      r.2.mem ((c.tc : Thread Cert.Dw1.nD Cert.Dw1.τ).loc Cert.Dw1.main_arg0) = m ((c.tc : Thread Cert.Dw1.nD Cert.Dw1.τ).loc Cert.Dw1.main_arg0)
      ∧ r.2.mem ((c.tc : Thread Cert.Dw1.nD Cert.Dw1.τ).loc Cert.Dw1.main_arg1) = m ((c.tc : Thread Cert.Dw1.nD Cert.Dw1.τ).loc Cert.Dw1.main_arg1)
      ∧ r.2.mem ((c.tc : Thread Cert.Dw1.nD Cert.Dw1.τ).loc Cert.Dw1.main_arg2) = m ((c.tc : Thread Cert.Dw1.nD Cert.Dw1.τ).loc Cert.Dw1.main_arg2)
      ∧ r.2.mem ((c.tc : Thread Cert.Dw1.nD Cert.Dw1.τ).loc Cert.Dw1.main_arg3) = m ((c.tc : Thread Cert.Dw1.nD Cert.Dw1.τ).loc Cert.Dw1.main_arg3))
      ∧ r.2.sem = fun _ => 0)

def quiescent_Dw1Ideal [hDw1Ideal : Cert.Dw1Ideal.Facts] : Prop :=
  ∀ (m : (ℓ : Loc Cert.Dw1Ideal.nD Cert.Dw1Ideal.τ Cert.Dw1Ideal.sig) → Buf (Elt Ideal) ℓ) (g : Dev Cert.Dw1Ideal.nD → PrngReg), Pre_Dw1Ideal m →
    θ_run (Cert.Dw1Ideal.defs (F := Ideal)) (onTc (τ := Cert.Dw1Ideal.τ) (Cert.Dw1Ideal.main (F := Ideal))) ⟨m, fun _ => 0, g⟩ (fun r => (∀ c : Dev Cert.Dw1Ideal.nD,
      r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
      ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1)
      ∧ r.2.mem ((c.tc : Thread Cert.Dw1Ideal.nD Cert.Dw1Ideal.τ).loc Cert.Dw1Ideal.main_arg2) = m ((c.tc : Thread Cert.Dw1Ideal.nD Cert.Dw1Ideal.τ).loc Cert.Dw1Ideal.main_arg2)
      ∧ r.2.mem ((c.tc : Thread Cert.Dw1Ideal.nD Cert.Dw1Ideal.τ).loc Cert.Dw1Ideal.main_arg3) = m ((c.tc : Thread Cert.Dw1Ideal.nD Cert.Dw1Ideal.τ).loc Cert.Dw1Ideal.main_arg3))
      ∧ r.2.sem = fun _ => 0)

def quiescent_Dw1RefIdeal [hDw1RefIdeal : Cert.Dw1RefIdeal.Facts] : Prop :=
  ∀ (m : (ℓ : Loc Cert.Dw1RefIdeal.nD Cert.Dw1RefIdeal.τ Cert.Dw1RefIdeal.sig) → Buf (Elt Ideal) ℓ) (g : Dev Cert.Dw1RefIdeal.nD → PrngReg), Pre_Dw1RefIdeal m →
    θ_run (Cert.Dw1RefIdeal.defs (F := Ideal)) (onTc (τ := Cert.Dw1RefIdeal.τ) (Cert.Dw1RefIdeal.main (F := Ideal))) ⟨m, fun _ => 0, g⟩ (fun r => (∀ c : Dev Cert.Dw1RefIdeal.nD,
      r.2.mem ((c.tc : Thread Cert.Dw1RefIdeal.nD Cert.Dw1RefIdeal.τ).loc Cert.Dw1RefIdeal.main_arg0) = m ((c.tc : Thread Cert.Dw1RefIdeal.nD Cert.Dw1RefIdeal.τ).loc Cert.Dw1RefIdeal.main_arg0)
      ∧ r.2.mem ((c.tc : Thread Cert.Dw1RefIdeal.nD Cert.Dw1RefIdeal.τ).loc Cert.Dw1RefIdeal.main_arg1) = m ((c.tc : Thread Cert.Dw1RefIdeal.nD Cert.Dw1RefIdeal.τ).loc Cert.Dw1RefIdeal.main_arg1)
      ∧ r.2.mem ((c.tc : Thread Cert.Dw1RefIdeal.nD Cert.Dw1RefIdeal.τ).loc Cert.Dw1RefIdeal.main_arg2) = m ((c.tc : Thread Cert.Dw1RefIdeal.nD Cert.Dw1RefIdeal.τ).loc Cert.Dw1RefIdeal.main_arg2)
      ∧ r.2.mem ((c.tc : Thread Cert.Dw1RefIdeal.nD Cert.Dw1RefIdeal.τ).loc Cert.Dw1RefIdeal.main_arg3) = m ((c.tc : Thread Cert.Dw1RefIdeal.nD Cert.Dw1RefIdeal.τ).loc Cert.Dw1RefIdeal.main_arg3))
      ∧ r.2.sem = fun _ => 0)

def quiescent_Dw2 [hDw2 : Cert.Dw2.Facts] : Prop :=
  ∀ (m : (ℓ : Loc Cert.Dw2.nD Cert.Dw2.τ Cert.Dw2.sig) → Buf (Elt Bits) ℓ) (g : Dev Cert.Dw2.nD → PrngReg), Pre_Dw2 m →
    θ_run (Cert.Dw2.defs (F := Bits)) (onTc (τ := Cert.Dw2.τ) (Cert.Dw2.main (F := Bits))) ⟨m, fun _ => 0, g⟩ (fun r => (∀ c : Dev Cert.Dw2.nD,
      r.2.mem ((c.tc : Thread Cert.Dw2.nD Cert.Dw2.τ).loc Cert.Dw2.main_arg0) = m ((c.tc : Thread Cert.Dw2.nD Cert.Dw2.τ).loc Cert.Dw2.main_arg0)
      ∧ r.2.mem ((c.tc : Thread Cert.Dw2.nD Cert.Dw2.τ).loc Cert.Dw2.main_arg1) = m ((c.tc : Thread Cert.Dw2.nD Cert.Dw2.τ).loc Cert.Dw2.main_arg1)
      ∧ r.2.mem ((c.tc : Thread Cert.Dw2.nD Cert.Dw2.τ).loc Cert.Dw2.main_arg2) = m ((c.tc : Thread Cert.Dw2.nD Cert.Dw2.τ).loc Cert.Dw2.main_arg2)
      ∧ r.2.mem ((c.tc : Thread Cert.Dw2.nD Cert.Dw2.τ).loc Cert.Dw2.main_arg3) = m ((c.tc : Thread Cert.Dw2.nD Cert.Dw2.τ).loc Cert.Dw2.main_arg3))
      ∧ r.2.sem = fun _ => 0)

def quiescent_Dw2Ideal [hDw2Ideal : Cert.Dw2Ideal.Facts] : Prop :=
  ∀ (m : (ℓ : Loc Cert.Dw2Ideal.nD Cert.Dw2Ideal.τ Cert.Dw2Ideal.sig) → Buf (Elt Ideal) ℓ) (g : Dev Cert.Dw2Ideal.nD → PrngReg), Pre_Dw2Ideal m →
    θ_run (Cert.Dw2Ideal.defs (F := Ideal)) (onTc (τ := Cert.Dw2Ideal.τ) (Cert.Dw2Ideal.main (F := Ideal))) ⟨m, fun _ => 0, g⟩ (fun r => (∀ c : Dev Cert.Dw2Ideal.nD,
      r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
      ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1)
      ∧ r.2.mem ((c.tc : Thread Cert.Dw2Ideal.nD Cert.Dw2Ideal.τ).loc Cert.Dw2Ideal.main_arg2) = m ((c.tc : Thread Cert.Dw2Ideal.nD Cert.Dw2Ideal.τ).loc Cert.Dw2Ideal.main_arg2)
      ∧ r.2.mem ((c.tc : Thread Cert.Dw2Ideal.nD Cert.Dw2Ideal.τ).loc Cert.Dw2Ideal.main_arg3) = m ((c.tc : Thread Cert.Dw2Ideal.nD Cert.Dw2Ideal.τ).loc Cert.Dw2Ideal.main_arg3))
      ∧ r.2.sem = fun _ => 0)

def quiescent_Dw2RefIdeal [hDw2RefIdeal : Cert.Dw2RefIdeal.Facts] : Prop :=
  ∀ (m : (ℓ : Loc Cert.Dw2RefIdeal.nD Cert.Dw2RefIdeal.τ Cert.Dw2RefIdeal.sig) → Buf (Elt Ideal) ℓ) (g : Dev Cert.Dw2RefIdeal.nD → PrngReg), Pre_Dw2RefIdeal m →
    θ_run (Cert.Dw2RefIdeal.defs (F := Ideal)) (onTc (τ := Cert.Dw2RefIdeal.τ) (Cert.Dw2RefIdeal.main (F := Ideal))) ⟨m, fun _ => 0, g⟩ (fun r => (∀ c : Dev Cert.Dw2RefIdeal.nD,
      r.2.mem ((c.tc : Thread Cert.Dw2RefIdeal.nD Cert.Dw2RefIdeal.τ).loc Cert.Dw2RefIdeal.main_arg0) = m ((c.tc : Thread Cert.Dw2RefIdeal.nD Cert.Dw2RefIdeal.τ).loc Cert.Dw2RefIdeal.main_arg0)
      ∧ r.2.mem ((c.tc : Thread Cert.Dw2RefIdeal.nD Cert.Dw2RefIdeal.τ).loc Cert.Dw2RefIdeal.main_arg1) = m ((c.tc : Thread Cert.Dw2RefIdeal.nD Cert.Dw2RefIdeal.τ).loc Cert.Dw2RefIdeal.main_arg1)
      ∧ r.2.mem ((c.tc : Thread Cert.Dw2RefIdeal.nD Cert.Dw2RefIdeal.τ).loc Cert.Dw2RefIdeal.main_arg2) = m ((c.tc : Thread Cert.Dw2RefIdeal.nD Cert.Dw2RefIdeal.τ).loc Cert.Dw2RefIdeal.main_arg2)
      ∧ r.2.mem ((c.tc : Thread Cert.Dw2RefIdeal.nD Cert.Dw2RefIdeal.τ).loc Cert.Dw2RefIdeal.main_arg3) = m ((c.tc : Thread Cert.Dw2RefIdeal.nD Cert.Dw2RefIdeal.τ).loc Cert.Dw2RefIdeal.main_arg3))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3))
      ∧ r.2.sem = fun _ => 0)

def quiescent_DxIdeal_pre_dh_scale_is_normal [hDxIdeal : Cert.DxIdeal.Facts] [hPre_dh_scale_is_normal : Cert.Pre_dh_scale_is_normal.Facts] : Prop :=
  ∀ (m : (ℓ : Loc Cert.DxIdeal.nD Cert.DxIdeal.τ Cert.DxIdeal.sig) → Buf (Elt Ideal) ℓ) (g : Dev Cert.DxIdeal.nD → PrngReg), Pre_DxIdeal_dh_scale_is_normal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3))
      ∧ r.2.sem = fun _ => 0)

def quiescent_DxRefIdeal_pre_dh_scale_is_normal [hDxRefIdeal : Cert.DxRefIdeal.Facts] [hPre_dh_scale_is_normal : Cert.Pre_dh_scale_is_normal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal_dh_scale_is_normal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3)
      ∧ r.2.mem ((c.tc : Thread Cert.Dh.nD Cert.Dh.τ).loc Cert.Dh.main_arg4) = m ((c.tc : Thread Cert.Dh.nD Cert.Dh.τ).loc Cert.Dh.main_arg4))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4))
      ∧ r.2.sem = fun _ => 0)

def quiescent_Dy [hDy : Cert.Dy.Facts] : Prop :=
  ∀ (m : (ℓ : Loc Cert.Dy.nD Cert.Dy.τ Cert.Dy.sig) → Buf (Elt Bits) ℓ) (g : Dev Cert.Dy.nD → PrngReg), Pre_Dy m →
    θ_run (Cert.Dy.defs (F := Bits)) (onTc (τ := Cert.Dy.τ) (Cert.Dy.main (F := Bits))) ⟨m, fun _ => 0, g⟩ (fun r => (∀ c : Dev Cert.Dy.nD,
      r.2.mem ((c.tc : Thread Cert.Dy.nD Cert.Dy.τ).loc Cert.Dy.main_arg0) = m ((c.tc : Thread Cert.Dy.nD Cert.Dy.τ).loc Cert.Dy.main_arg0))
      ∧ r.2.sem = fun _ => 0)

def quiescent_DyIdeal [hDyIdeal : Cert.DyIdeal.Facts] : Prop :=
  ∀ (m : (ℓ : Loc Cert.DyIdeal.nD Cert.DyIdeal.τ Cert.DyIdeal.sig) → Buf (Elt Ideal) ℓ) (g : Dev Cert.DyIdeal.nD → PrngReg), Pre_DyIdeal m →
    θ_run (Cert.DyIdeal.defs (F := Ideal)) (onTc (τ := Cert.DyIdeal.τ) (Cert.DyIdeal.main (F := Ideal))) ⟨m, fun _ => 0, g⟩ (fun r => (∀ c : Dev Cert.DyIdeal.nD,
      r.2.mem ((c.tc : Thread Cert.DyIdeal.nD Cert.DyIdeal.τ).loc Cert.DyIdeal.main_arg0) = m ((c.tc : Thread Cert.DyIdeal.nD Cert.DyIdeal.τ).loc Cert.DyIdeal.main_arg0))
      ∧ r.2.sem = fun _ => 0)

def quiescent_DyIdeal_pre_dy_scale_is_normal [hDyIdeal : Cert.DyIdeal.Facts] [hPre_dy_scale_is_normal : Cert.Pre_dy_scale_is_normal.Facts] : Prop :=
  ∀ (m : (ℓ : Loc Cert.DyIdeal.nD Cert.DyIdeal.τ Cert.DyIdeal.sig) → Buf (Elt Ideal) ℓ) (g : Dev Cert.DyIdeal.nD → PrngReg), Pre_DyIdeal_dy_scale_is_normal m →
    θ_run (Cert.DyIdeal.defs (F := Ideal)) (onTc (τ := Cert.DyIdeal.τ) (Cert.DyIdeal.main (F := Ideal))) ⟨m, fun _ => 0, g⟩ (fun r => (∀ c : Dev Cert.DyIdeal.nD,
      r.2.mem ((c.tc : Thread Cert.DyIdeal.nD Cert.DyIdeal.τ).loc Cert.DyIdeal.main_arg0) = m ((c.tc : Thread Cert.DyIdeal.nD Cert.DyIdeal.τ).loc Cert.DyIdeal.main_arg0))
      ∧ r.2.sem = fun _ => 0)

def quiescent_DyRefIdeal [hDyRefIdeal : Cert.DyRefIdeal.Facts] : Prop :=
  ∀ (m : (ℓ : Loc Cert.DyRefIdeal.nD Cert.DyRefIdeal.τ Cert.DyRefIdeal.sig) → Buf (Elt Ideal) ℓ) (g : Dev Cert.DyRefIdeal.nD → PrngReg), Pre_DyRefIdeal m →
    θ_run (Cert.DyRefIdeal.defs (F := Ideal)) (onTc (τ := Cert.DyRefIdeal.τ) (Cert.DyRefIdeal.main (F := Ideal))) ⟨m, fun _ => 0, g⟩ (fun r => (∀ c : Dev Cert.DyRefIdeal.nD,
      r.2.mem ((c.tc : Thread Cert.DyRefIdeal.nD Cert.DyRefIdeal.τ).loc Cert.DyRefIdeal.main_arg0) = m ((c.tc : Thread Cert.DyRefIdeal.nD Cert.DyRefIdeal.τ).loc Cert.DyRefIdeal.main_arg0))
      ∧ r.2.sem = fun _ => 0)

def quiescent_DyRefIdeal_pre_dy_scale_is_normal [hDyRefIdeal : Cert.DyRefIdeal.Facts] [hPre_dy_scale_is_normal : Cert.Pre_dy_scale_is_normal.Facts] : Prop :=
  ∀ (m : (ℓ : Loc Cert.DyRefIdeal.nD Cert.DyRefIdeal.τ Cert.DyRefIdeal.sig) → Buf (Elt Ideal) ℓ) (g : Dev Cert.DyRefIdeal.nD → PrngReg), Pre_DyRefIdeal_dy_scale_is_normal m →
    θ_run (Cert.DyRefIdeal.defs (F := Ideal)) (onTc (τ := Cert.DyRefIdeal.τ) (Cert.DyRefIdeal.main (F := Ideal))) ⟨m, fun _ => 0, g⟩ (fun r => (∀ c : Dev Cert.DyRefIdeal.nD,
      r.2.mem ((c.tc : Thread Cert.DyRefIdeal.nD Cert.DyRefIdeal.τ).loc Cert.DyRefIdeal.main_arg0) = m ((c.tc : Thread Cert.DyRefIdeal.nD Cert.DyRefIdeal.τ).loc Cert.DyRefIdeal.main_arg0))
      ∧ r.2.sem = fun _ => 0)

def preserves_Dw1_Dw1Ideal : Prop :=
  True

def algebraic_Dw1Ideal_Dw1RefIdeal [hDw1Ideal : Cert.Dw1Ideal.Facts] [hDw1RefIdeal : Cert.Dw1RefIdeal.Facts] : Prop :=
  ∀ (m : (ℓ : Loc Cert.Dw1Ideal.nD Cert.Dw1Ideal.τ Cert.Dw1Ideal.sig) → Buf (Elt Ideal) ℓ) (g : Dev Cert.Dw1Ideal.nD → PrngReg)
    (m' : (ℓ : Loc Cert.Dw1RefIdeal.nD Cert.Dw1RefIdeal.τ Cert.Dw1RefIdeal.sig) → Buf (Elt Ideal) ℓ) (g' : Dev Cert.Dw1RefIdeal.nD → PrngReg), Pre_Dw1Ideal m →
    (∀ c : Dev Cert.Dw1Ideal.nD,
      m' ((c.tc : Thread Cert.Dw1RefIdeal.nD Cert.Dw1RefIdeal.τ).loc Cert.Dw1RefIdeal.main_arg0) = m ((c.tc : Thread Cert.Dw1Ideal.nD Cert.Dw1Ideal.τ).loc Cert.Dw1Ideal.main_arg0)
      ∧ m' ((c.tc : Thread Cert.Dw1RefIdeal.nD Cert.Dw1RefIdeal.τ).loc Cert.Dw1RefIdeal.main_arg1) = m ((c.tc : Thread Cert.Dw1Ideal.nD Cert.Dw1Ideal.τ).loc Cert.Dw1Ideal.main_arg1)
      ∧ m' ((c.tc : Thread Cert.Dw1RefIdeal.nD Cert.Dw1RefIdeal.τ).loc Cert.Dw1RefIdeal.main_arg2) = m ((c.tc : Thread Cert.Dw1Ideal.nD Cert.Dw1Ideal.τ).loc Cert.Dw1Ideal.main_arg2)
      ∧ m' ((c.tc : Thread Cert.Dw1RefIdeal.nD Cert.Dw1RefIdeal.τ).loc Cert.Dw1RefIdeal.main_arg3) = m ((c.tc : Thread Cert.Dw1Ideal.nD Cert.Dw1Ideal.τ).loc Cert.Dw1Ideal.main_arg3)) →
    ∃ (v0 : (c : Dev Cert.Dw1Ideal.nD) → Buf (Elt Ideal) ((c.tc : Thread Cert.Dw1Ideal.nD Cert.Dw1Ideal.τ).loc Cert.Dw1Ideal.main_v3)),
      θ_run (Cert.Dw1Ideal.defs (F := Ideal)) (onTc (τ := Cert.Dw1Ideal.τ) (Cert.Dw1Ideal.main (F := Ideal))) ⟨m, fun _ => 0, g⟩ (fun r => ∀ c : Dev Cert.Dw1Ideal.nD,
          r.2.mem ((c.tc : Thread Cert.Dw1Ideal.nD Cert.Dw1Ideal.τ).loc Cert.Dw1Ideal.main_v3) = v0 c
          ∧ r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
          ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1)
          ∧ r.2.mem ((c.tc : Thread Cert.Dw1Ideal.nD Cert.Dw1Ideal.τ).loc Cert.Dw1Ideal.main_arg2) = m ((c.tc : Thread Cert.Dw1Ideal.nD Cert.Dw1Ideal.τ).loc Cert.Dw1Ideal.main_arg2)
          ∧ r.2.mem ((c.tc : Thread Cert.Dw1Ideal.nD Cert.Dw1Ideal.τ).loc Cert.Dw1Ideal.main_arg3) = m ((c.tc : Thread Cert.Dw1Ideal.nD Cert.Dw1Ideal.τ).loc Cert.Dw1Ideal.main_arg3))
      ∧ θ_run (Cert.Dw1RefIdeal.defs (F := Ideal)) (onTc (τ := Cert.Dw1RefIdeal.τ) (Cert.Dw1RefIdeal.main (F := Ideal))) ⟨m', fun _ => 0, g'⟩ (fun r => ∀ c : Dev Cert.Dw1RefIdeal.nD,
          r.2.mem ((c.tc : Thread Cert.Dw1RefIdeal.nD Cert.Dw1RefIdeal.τ).loc Cert.Dw1RefIdeal.main_v3) = v0 c
          ∧ r.2.mem ((c.tc : Thread Cert.Dw1RefIdeal.nD Cert.Dw1RefIdeal.τ).loc Cert.Dw1RefIdeal.main_arg0) = m' ((c.tc : Thread Cert.Dw1RefIdeal.nD Cert.Dw1RefIdeal.τ).loc Cert.Dw1RefIdeal.main_arg0)
          ∧ r.2.mem ((c.tc : Thread Cert.Dw1RefIdeal.nD Cert.Dw1RefIdeal.τ).loc Cert.Dw1RefIdeal.main_arg1) = m' ((c.tc : Thread Cert.Dw1RefIdeal.nD Cert.Dw1RefIdeal.τ).loc Cert.Dw1RefIdeal.main_arg1)
          ∧ r.2.mem ((c.tc : Thread Cert.Dw1RefIdeal.nD Cert.Dw1RefIdeal.τ).loc Cert.Dw1RefIdeal.main_arg2) = m' ((c.tc : Thread Cert.Dw1RefIdeal.nD Cert.Dw1RefIdeal.τ).loc Cert.Dw1RefIdeal.main_arg2)
          ∧ r.2.mem ((c.tc : Thread Cert.Dw1RefIdeal.nD Cert.Dw1RefIdeal.τ).loc Cert.Dw1RefIdeal.main_arg3) = m' ((c.tc : Thread Cert.Dw1RefIdeal.nD Cert.Dw1RefIdeal.τ).loc Cert.Dw1RefIdeal.main_arg3))

def preserves_Dw2_Dw2Ideal : Prop :=
  True

def algebraic_Dw2Ideal_Dw2RefIdeal [hDw2Ideal : Cert.Dw2Ideal.Facts] [hDw2RefIdeal : Cert.Dw2RefIdeal.Facts] : Prop :=
  ∀ (m : (ℓ : Loc Cert.Dw2Ideal.nD Cert.Dw2Ideal.τ Cert.Dw2Ideal.sig) → Buf (Elt Ideal) ℓ) (g : Dev Cert.Dw2Ideal.nD → PrngReg)
    (m' : (ℓ : Loc Cert.Dw2RefIdeal.nD Cert.Dw2RefIdeal.τ Cert.Dw2RefIdeal.sig) → Buf (Elt Ideal) ℓ) (g' : Dev Cert.Dw2RefIdeal.nD → PrngReg), Pre_Dw2Ideal m →
    (∀ c : Dev Cert.Dw2Ideal.nD,
      m' ((c.tc : Thread Cert.Dw2RefIdeal.nD Cert.Dw2RefIdeal.τ).loc Cert.Dw2RefIdeal.main_arg0) = m ((c.tc : Thread Cert.Dw2Ideal.nD Cert.Dw2Ideal.τ).loc Cert.Dw2Ideal.main_arg0)
      ∧ m' ((c.tc : Thread Cert.Dw2RefIdeal.nD Cert.Dw2RefIdeal.τ).loc Cert.Dw2RefIdeal.main_arg1) = m ((c.tc : Thread Cert.Dw2Ideal.nD Cert.Dw2Ideal.τ).loc Cert.Dw2Ideal.main_arg1)
      ∧ m' ((c.tc : Thread Cert.Dw2RefIdeal.nD Cert.Dw2RefIdeal.τ).loc Cert.Dw2RefIdeal.main_arg2) = m ((c.tc : Thread Cert.Dw2Ideal.nD Cert.Dw2Ideal.τ).loc Cert.Dw2Ideal.main_arg2)
      ∧ m' ((c.tc : Thread Cert.Dw2RefIdeal.nD Cert.Dw2RefIdeal.τ).loc Cert.Dw2RefIdeal.main_arg3) = m ((c.tc : Thread Cert.Dw2Ideal.nD Cert.Dw2Ideal.τ).loc Cert.Dw2Ideal.main_arg3)) →
    ∃ (v0 : (c : Dev Cert.Dw2Ideal.nD) → Buf (Elt Ideal) ((c.tc : Thread Cert.Dw2Ideal.nD Cert.Dw2Ideal.τ).loc Cert.Dw2Ideal.main_v3)),
      θ_run (Cert.Dw2Ideal.defs (F := Ideal)) (onTc (τ := Cert.Dw2Ideal.τ) (Cert.Dw2Ideal.main (F := Ideal))) ⟨m, fun _ => 0, g⟩ (fun r => ∀ c : Dev Cert.Dw2Ideal.nD,
          r.2.mem ((c.tc : Thread Cert.Dw2Ideal.nD Cert.Dw2Ideal.τ).loc Cert.Dw2Ideal.main_v3) = v0 c
          ∧ r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
          ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1)
          ∧ r.2.mem ((c.tc : Thread Cert.Dw2Ideal.nD Cert.Dw2Ideal.τ).loc Cert.Dw2Ideal.main_arg2) = m ((c.tc : Thread Cert.Dw2Ideal.nD Cert.Dw2Ideal.τ).loc Cert.Dw2Ideal.main_arg2)
          ∧ r.2.mem ((c.tc : Thread Cert.Dw2Ideal.nD Cert.Dw2Ideal.τ).loc Cert.Dw2Ideal.main_arg3) = m ((c.tc : Thread Cert.Dw2Ideal.nD Cert.Dw2Ideal.τ).loc Cert.Dw2Ideal.main_arg3))
      ∧ θ_run (Cert.Dw2RefIdeal.defs (F := Ideal)) (onTc (τ := Cert.Dw2RefIdeal.τ) (Cert.Dw2RefIdeal.main (F := Ideal))) ⟨m', fun _ => 0, g'⟩ (fun r => ∀ c : Dev Cert.Dw2RefIdeal.nD,
          r.2.mem ((c.tc : Thread Cert.Dw2RefIdeal.nD Cert.Dw2RefIdeal.τ).loc Cert.Dw2RefIdeal.main_v3) = v0 c
          ∧ r.2.mem ((c.tc : Thread Cert.Dw2RefIdeal.nD Cert.Dw2RefIdeal.τ).loc Cert.Dw2RefIdeal.main_arg0) = m' ((c.tc : Thread Cert.Dw2RefIdeal.nD Cert.Dw2RefIdeal.τ).loc Cert.Dw2RefIdeal.main_arg0)
          ∧ r.2.mem ((c.tc : Thread Cert.Dw2RefIdeal.nD Cert.Dw2RefIdeal.τ).loc Cert.Dw2RefIdeal.main_arg1) = m' ((c.tc : Thread Cert.Dw2RefIdeal.nD Cert.Dw2RefIdeal.τ).loc Cert.Dw2RefIdeal.main_arg1)
          ∧ r.2.mem ((c.tc : Thread Cert.Dw2RefIdeal.nD Cert.Dw2RefIdeal.τ).loc Cert.Dw2RefIdeal.main_arg2) = m' ((c.tc : Thread Cert.Dw2RefIdeal.nD Cert.Dw2RefIdeal.τ).loc Cert.Dw2RefIdeal.main_arg2)
          ∧ r.2.mem ((c.tc : Thread Cert.Dw2RefIdeal.nD Cert.Dw2RefIdeal.τ).loc Cert.Dw2RefIdeal.main_arg3) = m' ((c.tc : Thread Cert.Dw2RefIdeal.nD Cert.Dw2RefIdeal.τ).loc Cert.Dw2RefIdeal.main_arg3))

def preserves_Dx_DxIdeal : Prop :=
  True

def algebraic_DxIdeal_DxRefIdeal_pre_dh_scale_is_normal [hDxIdeal : Cert.DxIdeal.Facts] [hDxRefIdeal : Cert.DxRefIdeal.Facts] [hPre_dh_scale_is_normal : Cert.Pre_dh_scale_is_normal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal_dh_scale_is_normal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)) →
    ∃ (v0 : (c : Dev Cert.DxIdeal.nD) → Buf (Elt Ideal) ((c.tc : Thread Cert.DxIdeal.nD Cert.DxIdeal.τ).loc Cert.DxIdeal.main_v1_0)) (v1 : (c : Dev Cert.DxIdeal.nD) → Buf (Elt Ideal) ((c.tc : Thread Cert.DxIdeal.nD Cert.DxIdeal.τ).loc Cert.DxIdeal.main_v1_1)) (v2 : (c : Dev Cert.DxIdeal.nD) → Buf (Elt Ideal) ((c.tc : Thread Cert.DxIdeal.nD Cert.DxIdeal.τ).loc Cert.DxIdeal.main_v1_2)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v1_0) = v0 c
          ∧ r.2.mem ((c.tc : Thread Cert.DxIdeal.nD Cert.DxIdeal.τ).loc Cert.DxIdeal.main_v1_1) = v1 c
          ∧ r.2.mem ((c.tc : Thread Cert.DxIdeal.nD Cert.DxIdeal.τ).loc Cert.DxIdeal.main_v1_2) = v2 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v21_1) = v0 c
          ∧ r.2.mem ((c.tc : Thread Cert.DxRefIdeal.nD Cert.DxRefIdeal.τ).loc Cert.DxRefIdeal.main_v21_0) = v1 c
          ∧ r.2.mem ((c.tc : Thread Cert.DxRefIdeal.nD Cert.DxRefIdeal.τ).loc Cert.DxRefIdeal.main_v12) = v2 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3))

def preserves_Dh_DhIdeal : Prop :=
  IdealRules.bf16_pack.Statement Cert.DhIdeal.S768x512

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)
      ∧ m' ((c.tc : Thread Cert.DhRefIdeal.nD Cert.DhRefIdeal.τ).loc Cert.DhRefIdeal.main_arg3) = m ((c.tc : Thread Cert.DhIdeal.nD Cert.DhIdeal.τ).loc Cert.DhIdeal.main_arg3)
      ∧ m' ((c.tc : Thread Cert.DhRefIdeal.nD Cert.DhRefIdeal.τ).loc Cert.DhRefIdeal.main_arg4) = m ((c.tc : Thread Cert.DhIdeal.nD Cert.DhIdeal.τ).loc Cert.DhIdeal.main_arg4)) →
    ∃ (v0 : (c : Dev Cert.DhIdeal.nD) → Buf (Elt Ideal) ((c.tc : Thread Cert.DhIdeal.nD Cert.DhIdeal.τ).loc Cert.DhIdeal.main_v3_0)) (v1 : (c : Dev Cert.DhIdeal.nD) → Buf (Elt Ideal) ((c.tc : Thread Cert.DhIdeal.nD Cert.DhIdeal.τ).loc Cert.DhIdeal.main_v3_1)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v3_0) = v0 c
          ∧ r.2.mem ((c.tc : Thread Cert.DhIdeal.nD Cert.DhIdeal.τ).loc Cert.DhIdeal.main_v3_1) = v1 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
          ∧ r.2.mem ((c.tc : Thread Cert.DhIdeal.nD Cert.DhIdeal.τ).loc Cert.DhIdeal.main_arg4) = m ((c.tc : Thread Cert.DhIdeal.nD Cert.DhIdeal.τ).loc Cert.DhIdeal.main_arg4))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v5_0) = v0 c
          ∧ r.2.mem ((c.tc : Thread Cert.DhRefIdeal.nD Cert.DhRefIdeal.τ).loc Cert.DhRefIdeal.main_v5_1) = v1 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3)
          ∧ r.2.mem ((c.tc : Thread Cert.DhRefIdeal.nD Cert.DhRefIdeal.τ).loc Cert.DhRefIdeal.main_arg4) = m' ((c.tc : Thread Cert.DhRefIdeal.nD Cert.DhRefIdeal.τ).loc Cert.DhRefIdeal.main_arg4))

def preserves_Dy_DyIdeal : Prop :=
  True

def algebraic_DyIdeal_DyRefIdeal_pre_dy_scale_is_normal [hDyIdeal : Cert.DyIdeal.Facts] [hDyRefIdeal : Cert.DyRefIdeal.Facts] [hPre_dy_scale_is_normal : Cert.Pre_dy_scale_is_normal.Facts] : Prop :=
  ∀ (m : (ℓ : Loc Cert.DyIdeal.nD Cert.DyIdeal.τ Cert.DyIdeal.sig) → Buf (Elt Ideal) ℓ) (g : Dev Cert.DyIdeal.nD → PrngReg)
    (m' : (ℓ : Loc Cert.DyRefIdeal.nD Cert.DyRefIdeal.τ Cert.DyRefIdeal.sig) → Buf (Elt Ideal) ℓ) (g' : Dev Cert.DyRefIdeal.nD → PrngReg), Pre_DyIdeal_dy_scale_is_normal m →
    (∀ c : Dev Cert.DyIdeal.nD,
      m' ((c.tc : Thread Cert.DyRefIdeal.nD Cert.DyRefIdeal.τ).loc Cert.DyRefIdeal.main_arg0) = m ((c.tc : Thread Cert.DyIdeal.nD Cert.DyIdeal.τ).loc Cert.DyIdeal.main_arg0)) →
    ∃ (v0 : (c : Dev Cert.DyIdeal.nD) → Buf (Elt Ideal) ((c.tc : Thread Cert.DyIdeal.nD Cert.DyIdeal.τ).loc Cert.DyIdeal.main_v1_0)) (v1 : (c : Dev Cert.DyIdeal.nD) → Buf (Elt Ideal) ((c.tc : Thread Cert.DyIdeal.nD Cert.DyIdeal.τ).loc Cert.DyIdeal.main_v1_1)),
      θ_run (Cert.DyIdeal.defs (F := Ideal)) (onTc (τ := Cert.DyIdeal.τ) (Cert.DyIdeal.main (F := Ideal))) ⟨m, fun _ => 0, g⟩ (fun r => ∀ c : Dev Cert.DyIdeal.nD,
          r.2.mem ((c.tc : Thread Cert.DyIdeal.nD Cert.DyIdeal.τ).loc Cert.DyIdeal.main_v1_0) = v0 c
          ∧ r.2.mem ((c.tc : Thread Cert.DyIdeal.nD Cert.DyIdeal.τ).loc Cert.DyIdeal.main_v1_1) = v1 c
          ∧ r.2.mem ((c.tc : Thread Cert.DyIdeal.nD Cert.DyIdeal.τ).loc Cert.DyIdeal.main_arg0) = m ((c.tc : Thread Cert.DyIdeal.nD Cert.DyIdeal.τ).loc Cert.DyIdeal.main_arg0))
      ∧ θ_run (Cert.DyRefIdeal.defs (F := Ideal)) (onTc (τ := Cert.DyRefIdeal.τ) (Cert.DyRefIdeal.main (F := Ideal))) ⟨m', fun _ => 0, g'⟩ (fun r => ∀ c : Dev Cert.DyRefIdeal.nD,
          r.2.mem ((c.tc : Thread Cert.DyRefIdeal.nD Cert.DyRefIdeal.τ).loc Cert.DyRefIdeal.main_v17) = v0 c
          ∧ r.2.mem ((c.tc : Thread Cert.DyRefIdeal.nD Cert.DyRefIdeal.τ).loc Cert.DyRefIdeal.main_v14) = v1 c
          ∧ r.2.mem ((c.tc : Thread Cert.DyRefIdeal.nD Cert.DyRefIdeal.τ).loc Cert.DyRefIdeal.main_arg0) = m' ((c.tc : Thread Cert.DyRefIdeal.nD Cert.DyRefIdeal.τ).loc Cert.DyRefIdeal.main_arg0))

def Claim : Prop :=
  ∃ (hDw1 : Cert.Dw1.Facts) (hDw1Ideal : Cert.Dw1Ideal.Facts) (hDw1RefIdeal : Cert.Dw1RefIdeal.Facts) (hDw2 : Cert.Dw2.Facts) (hDw2Ideal : Cert.Dw2Ideal.Facts) (hDw2RefIdeal : Cert.Dw2RefIdeal.Facts) (hDx : Cert.Dx.Facts) (hDxIdeal : Cert.DxIdeal.Facts) (hDxRefIdeal : Cert.DxRefIdeal.Facts) (hDh : Cert.Dh.Facts) (hDhIdeal : Cert.DhIdeal.Facts) (hDhRefIdeal : Cert.DhRefIdeal.Facts) (hDy : Cert.Dy.Facts) (hDyIdeal : Cert.DyIdeal.Facts) (hDyRefIdeal : Cert.DyRefIdeal.Facts) (hPre_dh_scale_is_normal : Cert.Pre_dh_scale_is_normal.Facts) (hPre_dy_scale_is_normal : Cert.Pre_dy_scale_is_normal.Facts),
    quiescent_Dw1 (hDw1 := hDw1)
    ∧ quiescent_Dw1Ideal (hDw1Ideal := hDw1Ideal)
    ∧ quiescent_Dw1RefIdeal (hDw1RefIdeal := hDw1RefIdeal)
    ∧ quiescent_Dw2 (hDw2 := hDw2)
    ∧ quiescent_Dw2Ideal (hDw2Ideal := hDw2Ideal)
    ∧ quiescent_Dw2RefIdeal (hDw2RefIdeal := hDw2RefIdeal)
    ∧ quiescent_Dx (hDx := hDx)
    ∧ quiescent_DxIdeal (hDxIdeal := hDxIdeal)
    ∧ quiescent_DxIdeal_pre_dh_scale_is_normal (hDxIdeal := hDxIdeal) (hPre_dh_scale_is_normal := hPre_dh_scale_is_normal)
    ∧ quiescent_DxRefIdeal (hDxRefIdeal := hDxRefIdeal)
    ∧ quiescent_DxRefIdeal_pre_dh_scale_is_normal (hDxRefIdeal := hDxRefIdeal) (hPre_dh_scale_is_normal := hPre_dh_scale_is_normal)
    ∧ quiescent_Dh (hDh := hDh)
    ∧ quiescent_DhIdeal (hDhIdeal := hDhIdeal)
    ∧ quiescent_DhRefIdeal (hDhRefIdeal := hDhRefIdeal)
    ∧ quiescent_Dy (hDy := hDy)
    ∧ quiescent_DyIdeal (hDyIdeal := hDyIdeal)
    ∧ quiescent_DyIdeal_pre_dy_scale_is_normal (hDyIdeal := hDyIdeal) (hPre_dy_scale_is_normal := hPre_dy_scale_is_normal)
    ∧ quiescent_DyRefIdeal (hDyRefIdeal := hDyRefIdeal)
    ∧ quiescent_DyRefIdeal_pre_dy_scale_is_normal (hDyRefIdeal := hDyRefIdeal) (hPre_dy_scale_is_normal := hPre_dy_scale_is_normal)
    ∧ preserves_Dw1_Dw1Ideal
    ∧ algebraic_Dw1Ideal_Dw1RefIdeal (hDw1Ideal := hDw1Ideal) (hDw1RefIdeal := hDw1RefIdeal)
    ∧ preserves_Dw2_Dw2Ideal
    ∧ algebraic_Dw2Ideal_Dw2RefIdeal (hDw2Ideal := hDw2Ideal) (hDw2RefIdeal := hDw2RefIdeal)
    ∧ preserves_Dx_DxIdeal
    ∧ algebraic_DxIdeal_DxRefIdeal_pre_dh_scale_is_normal (hDxIdeal := hDxIdeal) (hDxRefIdeal := hDxRefIdeal) (hPre_dh_scale_is_normal := hPre_dh_scale_is_normal)
    ∧ preserves_Dh_DhIdeal
    ∧ algebraic_DhIdeal_DhRefIdeal (hDhIdeal := hDhIdeal) (hDhRefIdeal := hDhRefIdeal)
    ∧ preserves_Dy_DyIdeal
    ∧ algebraic_DyIdeal_DyRefIdeal_pre_dy_scale_is_normal (hDyIdeal := hDyIdeal) (hDyRefIdeal := hDyRefIdeal) (hPre_dy_scale_is_normal := hPre_dy_scale_is_normal)
-- ==== Pre_dh_scale_is_normal.lean ====
abbrev S2x3840x18944 : Shape := ⟨3, ![2, 3840, 18944]⟩
abbrev S8x128 : Shape := ⟨2, ![8, 128]⟩
abbrev S3584x37888 : Shape := ⟨2, ![3584, 37888]⟩
abbrev S_ : Shape := ⟨0, ![]⟩

class Facts : Prop where
  reducesTo_S8x128_S_d0_1 : S8x128.ReducesTo [0, 1] S_
  h_S_ : 0 < S_.numel

variable [Facts]

def fn {F : FTy → Type} [FloatOps F] (main_arg0 : FVec F S2x3840x18944 .bf16) (main_arg1 : FVec F S8x128 .f32) (main_arg2 : FVec F S3584x37888 .fp8e4m3) (main_arg3 : FVec F S_ .f32) : IVec S_ 1 :=
  let main_cst : FVec F S_ .f32 := constant S_ .f32 0xFF800000#32
  let main_v0 : FVec F S_ .f32 := (fun x v => Host.reduce FloatOps.maximumf x v reducesTo_S8x128_S_d0_1 h_S_) main_arg1 main_cst
  let main_cst_0 : FVec F S_ .f32 := constant S_ .f32 0x37924925#32
  let main_v1 : FVec F S_ .f32 := mulf main_v0 main_cst_0
  let main_cst_1 : FVec F S_ .f32 := constant S_ .f32 0x00000000#32
  let main_v2 : IVec S_ 1 := cmpf .oeq main_v0 main_cst_1
  let main_cst_2 : FVec F S_ .f32 := constant S_ .f32 0x00800000#32
  let main_v3 : IVec S_ 1 := cmpf .oge main_v1 main_cst_2
  let main_cst_3 : FVec F S_ .f32 := constant S_ .f32 0x7E800000#32
  let main_v4 : IVec S_ 1 := cmpf .olt main_v1 main_cst_3
  let main_v5 : IVec S_ 1 := andi main_v3 main_v4
  let main_v6 : IVec S_ 1 := ori main_v2 main_v5
  main_v6
-- ==== Pre_dy_scale_is_normal.lean ====
abbrev S3x1280x3584 : Shape := ⟨3, ![3, 1280, 3584]⟩
abbrev S_ : Shape := ⟨0, ![]⟩

class Facts : Prop where
  bitsLt_bf16_f32 : FTy.bits .bf16 < FTy.bits .f32
  reducesTo_S3x1280x3584_S_d0_1_2 : S3x1280x3584.ReducesTo [0, 1, 2] S_
  h_S_ : 0 < S_.numel

variable [Facts]

def fn {F : FTy → Type} [FloatOps F] (main_arg0 : FVec F S3x1280x3584 .bf16) : IVec S_ 1 :=
  let main_v0 : FVec F S3x1280x3584 .f32 := (extf .f32 · bitsLt_bf16_f32) main_arg0
  let main_v1 : FVec F S3x1280x3584 .f32 := Host.absf main_v0
  let main_cst : FVec F S_ .f32 := constant S_ .f32 0xFF800000#32
  let main_v2 : FVec F S_ .f32 := (fun x v => Host.reduce FloatOps.maximumf x v reducesTo_S3x1280x3584_S_d0_1_2 h_S_) main_v1 main_cst
  let main_cst_0 : FVec F S_ .f32 := constant S_ .f32 0x37924925#32
  let main_v3 : FVec F S_ .f32 := mulf main_v2 main_cst_0
  let main_cst_1 : FVec F S_ .f32 := constant S_ .f32 0x00000000#32
  let main_v4 : IVec S_ 1 := cmpf .oeq main_v2 main_cst_1
  let main_cst_2 : FVec F S_ .f32 := constant S_ .f32 0x00800000#32
  let main_v5 : IVec S_ 1 := cmpf .oge main_v3 main_cst_2
  let main_cst_3 : FVec F S_ .f32 := constant S_ .f32 0x7E800000#32
  let main_v6 : IVec S_ 1 := cmpf .olt main_v3 main_cst_3
  let main_v7 : IVec S_ 1 := andi main_v5 main_v6
  let main_v8 : IVec S_ 1 := ori main_v4 main_v7
  main_v8
-- ==== Dw1.lean ====
abbrev S3x1280x3584 : Shape := ⟨3, ![3, 1280, 3584]⟩
abbrev S_ : Shape := ⟨0, ![]⟩
abbrev S3840x37888 : Shape := ⟨2, ![3840, 37888]⟩
abbrev S3840x3584 : Shape := ⟨2, ![3840, 3584]⟩
abbrev S1 : Shape := ⟨1, ![1]⟩
abbrev S3584x37888 : Shape := ⟨2, ![3584, 37888]⟩
abbrev S3840x896 : Shape := ⟨2, ![3840, 896]⟩
abbrev S3840x1024 : Shape := ⟨2, ![3840, 1024]⟩
abbrev S896x1024 : Shape := ⟨2, ![896, 1024]⟩

abbrev nBuf : Space → Nat
  | .hbm => 8
  | .vmem => 6
  | .smem => 1
  | _ => 0

abbrev bufTy : (tb : Table) → Fin (tcTables nBuf tb) → BufTy
  | .hbm, ⟨0, _⟩ => ⟨S3x1280x3584, .fp8e4m3⟩
  | .hbm, ⟨1, _⟩ => ⟨S_, .f32⟩
  | .hbm, ⟨2, _⟩ => ⟨S3840x37888, .fp8e5m2⟩
  | .hbm, ⟨3, _⟩ => ⟨S_, .f32⟩
  | .hbm, ⟨4, _⟩ => ⟨S3840x3584, .fp8e4m3⟩
  | .hbm, ⟨5, _⟩ => ⟨S_, .f32⟩
  | .hbm, ⟨6, _⟩ => ⟨S1, .f32⟩
  | .hbm, ⟨7, _⟩ => ⟨S3584x37888, .bf16⟩
  | .local _ .vmem, ⟨0, _⟩ => ⟨S3840x896, .fp8e4m3⟩
  | .local _ .vmem, ⟨1, _⟩ => ⟨S3840x896, .fp8e4m3⟩
  | .local _ .vmem, ⟨2, _⟩ => ⟨S3840x1024, .fp8e5m2⟩
  | .local _ .vmem, ⟨3, _⟩ => ⟨S3840x1024, .fp8e5m2⟩
  | .local _ .vmem, ⟨4, _⟩ => ⟨S896x1024, .bf16⟩
  | .local _ .vmem, ⟨5, _⟩ => ⟨S896x1024, .bf16⟩
  | .local _ .smem, ⟨0, _⟩ => ⟨S1, .f32⟩
  | _, _ => ⟨S3x1280x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![37, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S3840x896 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3840x1024 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S896x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Dw1RefIdeal.lean ====
abbrev S3x1280x3584 : Shape := ⟨3, ![3, 1280, 3584]⟩
abbrev S_ : Shape := ⟨0, ![]⟩
abbrev S3840x37888 : Shape := ⟨2, ![3840, 37888]⟩
abbrev S1x1 : Shape := ⟨2, ![1, 1]⟩
abbrev S3840x3584 : Shape := ⟨2, ![3840, 3584]⟩
abbrev S3584x37888 : Shape := ⟨2, ![3584, 37888]⟩

abbrev nBuf : Space → Nat
  | .hbm => 8
  | .vmem => 4
  | .smem => 0
  | _ => 0

abbrev bufTy : (tb : Table) → Fin (tcTables nBuf tb) → BufTy
  | .hbm, ⟨0, _⟩ => ⟨S3x1280x3584, .fp8e4m3⟩
  | .hbm, ⟨1, _⟩ => ⟨S_, .f32⟩
  | .hbm, ⟨2, _⟩ => ⟨S3840x37888, .fp8e5m2⟩
  | .hbm, ⟨3, _⟩ => ⟨S_, .f32⟩
  | .hbm, ⟨4, _⟩ => ⟨S_, .f32⟩
  | .hbm, ⟨5, _⟩ => ⟨S1x1, .f32⟩
  | .hbm, ⟨6, _⟩ => ⟨S3840x3584, .fp8e4m3⟩
  | .hbm, ⟨7, _⟩ => ⟨S3584x37888, .bf16⟩
  | .local _ .vmem, ⟨0, _⟩ => ⟨S1x1, .f32⟩
  | .local _ .vmem, ⟨1, _⟩ => ⟨S3840x3584, .fp8e4m3⟩
  | .local _ .vmem, ⟨2, _⟩ => ⟨S3840x37888, .fp8e5m2⟩
  | .local _ .vmem, ⟨3, _⟩ => ⟨S3584x37888, .bf16⟩
  | _, _ => ⟨S3x1280x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3840x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3840x37888 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584x37888 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Dw2.lean ====
abbrev S3x1280x18944 : Shape := ⟨3, ![3, 1280, 18944]⟩
abbrev S_ : Shape := ⟨0, ![]⟩
abbrev S3840x3584 : Shape := ⟨2, ![3840, 3584]⟩
abbrev S3840x18944 : Shape := ⟨2, ![3840, 18944]⟩
abbrev S1 : Shape := ⟨1, ![1]⟩
abbrev S18944x3584 : Shape := ⟨2, ![18944, 3584]⟩
abbrev S3840x512 : Shape := ⟨2, ![3840, 512]⟩
abbrev S3840x1792 : Shape := ⟨2, ![3840, 1792]⟩
abbrev S512x1792 : Shape := ⟨2, ![512, 1792]⟩

abbrev nBuf : Space → Nat
  | .hbm => 8
  | .vmem => 6
  | .smem => 1
  | _ => 0

abbrev bufTy : (tb : Table) → Fin (tcTables nBuf tb) → BufTy
  | .hbm, ⟨0, _⟩ => ⟨S3x1280x18944, .fp8e4m3⟩
  | .hbm, ⟨1, _⟩ => ⟨S_, .f32⟩
  | .hbm, ⟨2, _⟩ => ⟨S3840x3584, .fp8e5m2⟩
  | .hbm, ⟨3, _⟩ => ⟨S_, .f32⟩
  | .hbm, ⟨4, _⟩ => ⟨S3840x18944, .fp8e4m3⟩
  | .hbm, ⟨5, _⟩ => ⟨S_, .f32⟩
  | .hbm, ⟨6, _⟩ => ⟨S1, .f32⟩
  | .hbm, ⟨7, _⟩ => ⟨S18944x3584, .bf16⟩
  | .local _ .vmem, ⟨0, _⟩ => ⟨S3840x512, .fp8e4m3⟩
  | .local _ .vmem, ⟨1, _⟩ => ⟨S3840x512, .fp8e4m3⟩
  | .local _ .vmem, ⟨2, _⟩ => ⟨S3840x1792, .fp8e5m2⟩
  | .local _ .vmem, ⟨3, _⟩ => ⟨S3840x1792, .fp8e5m2⟩
  | .local _ .vmem, ⟨4, _⟩ => ⟨S512x1792, .bf16⟩
  | .local _ .vmem, ⟨5, _⟩ => ⟨S512x1792, .bf16⟩
  | .local _ .smem, ⟨0, _⟩ => ⟨S1, .f32⟩
  | _, _ => ⟨S3x1280x18944, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 37], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S3840x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3840x1792 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Dw2RefIdeal.lean ====
abbrev S3x1280x18944 : Shape := ⟨3, ![3, 1280, 18944]⟩
abbrev S_ : Shape := ⟨0, ![]⟩
abbrev S3840x3584 : Shape := ⟨2, ![3840, 3584]⟩
abbrev S1x1 : Shape := ⟨2, ![1, 1]⟩
abbrev S3840x18944 : Shape := ⟨2, ![3840, 18944]⟩
abbrev S18944x3584 : Shape := ⟨2, ![18944, 3584]⟩

abbrev nBuf : Space → Nat
  | .hbm => 8
  | .vmem => 4
  | .smem => 0
  | _ => 0

abbrev bufTy : (tb : Table) → Fin (tcTables nBuf tb) → BufTy
  | .hbm, ⟨0, _⟩ => ⟨S3x1280x18944, .fp8e4m3⟩
  | .hbm, ⟨1, _⟩ => ⟨S_, .f32⟩
  | .hbm, ⟨2, _⟩ => ⟨S3840x3584, .fp8e5m2⟩
  | .hbm, ⟨3, _⟩ => ⟨S_, .f32⟩
  | .hbm, ⟨4, _⟩ => ⟨S_, .f32⟩
  | .hbm, ⟨5, _⟩ => ⟨S1x1, .f32⟩
  | .hbm, ⟨6, _⟩ => ⟨S3840x18944, .fp8e4m3⟩
  | .hbm, ⟨7, _⟩ => ⟨S18944x3584, .bf16⟩
  | .local _ .vmem, ⟨0, _⟩ => ⟨S1x1, .f32⟩
  | .local _ .vmem, ⟨1, _⟩ => ⟨S3840x18944, .fp8e4m3⟩
  | .local _ .vmem, ⟨2, _⟩ => ⟨S3840x3584, .fp8e5m2⟩
  | .local _ .vmem, ⟨3, _⟩ => ⟨S18944x3584, .bf16⟩
  | _, _ => ⟨S3x1280x18944, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3840x18944 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3840x3584 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18944x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Dx.lean ====
abbrev S2x3840x18944 : Shape := ⟨3, ![2, 3840, 18944]⟩
abbrev S8x128 : Shape := ⟨2, ![8, 128]⟩
abbrev S3584x37888 : Shape := ⟨2, ![3584, 37888]⟩
abbrev S_ : Shape := ⟨0, ![]⟩
abbrev S1 : Shape := ⟨1, ![1]⟩
abbrev S3840x3584 : Shape := ⟨2, ![3840, 3584]⟩
abbrev S3840x37888 : Shape := ⟨2, ![3840, 37888]⟩
abbrev S1x960x512 : Shape := ⟨3, ![1, 960, 512]⟩
abbrev S3584x512 : Shape := ⟨2, ![3584, 512]⟩
abbrev S960x3584 : Shape := ⟨2, ![960, 3584]⟩
abbrev S960x512 : Shape := ⟨2, ![960, 512]⟩
abbrev S8 : Shape := ⟨1, ![8]⟩
abbrev S8x1 : Shape := ⟨2, ![8, 1]⟩
abbrev S1x1 : Shape := ⟨2, ![1, 1]⟩

abbrev nBuf : Space → Nat
  | .hbm => 8
  | .vmem => 11
  | .smem => 1
  | _ => 0

abbrev bufTy : (tb : Table) → Fin (tcTables nBuf tb) → BufTy
  | .hbm, ⟨0, _⟩ => ⟨S2x3840x18944, .bf16⟩
  | .hbm, ⟨1, _⟩ => ⟨S8x128, .f32⟩
  | .hbm, ⟨2, _⟩ => ⟨S3584x37888, .fp8e4m3⟩
  | .hbm, ⟨3, _⟩ => ⟨S_, .f32⟩
  | .hbm, ⟨4, _⟩ => ⟨S1, .f32⟩
  | .hbm, ⟨5, _⟩ => ⟨S3840x3584, .bf16⟩
  | .hbm, ⟨6, _⟩ => ⟨S3840x37888, .fp8e5m2⟩
  | .hbm, ⟨7, _⟩ => ⟨S8x128, .f32⟩
  | .local _ .vmem, ⟨0, _⟩ => ⟨S8x128, .f32⟩
  | .local _ .vmem, ⟨1, _⟩ => ⟨S1x960x512, .bf16⟩
  | .local _ .vmem, ⟨2, _⟩ => ⟨S1x960x512, .bf16⟩
  | .local _ .vmem, ⟨3, _⟩ => ⟨S3584x512, .fp8e4m3⟩
  | .local _ .vmem, ⟨4, _⟩ => ⟨S3584x512, .fp8e4m3⟩
  | .local _ .vmem, ⟨5, _⟩ => ⟨S960x3584, .bf16⟩
  | .local _ .vmem, ⟨6, _⟩ => ⟨S960x3584, .bf16⟩
  | .local _ .vmem, ⟨7, _⟩ => ⟨S960x512, .fp8e5m2⟩
  | .local _ .vmem, ⟨8, _⟩ => ⟨S960x512, .fp8e5m2⟩
  | .local _ .vmem, ⟨9, _⟩ => ⟨S8x128, .f32⟩
  | .local _ .vmem, ⟨10, _⟩ => ⟨S960x3584, .f32⟩
  | .local _ .smem, ⟨0, _⟩ => ⟨S1, .f32⟩
  | _, _ => ⟨S2x3840x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![4, 74], ![false, false]⟩

def k0_cond2 (i : grid0.Coords) : BitVec 1 :=
  let arg1 : BitVec 32 := BitVec.ofNat 32 (i 1).val
  let c73_i32 : BitVec 32 := 73#32
  let v123 : BitVec 1 := Scalar.cmpi .eq arg1 c73_i32
  let v124 : BitVec 32 := Scalar.extui v123
  let c0_i32_42 : BitVec 32 := 0#32
  let v125 : BitVec 1 := Scalar.cmpi .ne v124 c0_i32_42
  v125

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c37_i32 : BitVec 32 := 37#32
  let v0 : BitVec 32 := Scalar.divsi arg1 c37_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c37_i32 c0_i32_1
  let v7 : BitVec 32 := Scalar.extui v6
  let c0_i32_2 : BitVec 32 := 0#32
  let v8 : BitVec 1 := Scalar.cmpi .slt c37_i32 c0_i32_2
  let v9 : BitVec 32 := Scalar.extui v8
  let v10 : BitVec 32 := Scalar.subi v7 v9
  let v11 : BitVec 1 := Scalar.cmpi .ne v5 v10
  let v12 : BitVec 32 := Scalar.remsi arg1 c37_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c37_i32_4 : BitVec 32 := 37#32
  let c0_i32_5 : BitVec 32 := 0#32
  let v17 : BitVec 1 := Scalar.cmpi .eq c37_i32_4 c0_i32_5
  let c1_i32_6 : BitVec 32 := 1#32
  let v18 : BitVec 32 := Scalar.select v17 c1_i32_6 c37_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x960x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3584x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S960x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S960x512 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== DxRefIdeal.lean ====
abbrev S2x3840x18944 : Shape := ⟨3, ![2, 3840, 18944]⟩
abbrev S8x128 : Shape := ⟨2, ![8, 128]⟩
abbrev S3584x37888 : Shape := ⟨2, ![3584, 37888]⟩
abbrev S_ : Shape := ⟨0, ![]⟩
abbrev S1x1 : Shape := ⟨2, ![1, 1]⟩
abbrev S1x3840x18944 : Shape := ⟨3, ![1, 3840, 18944]⟩
abbrev S3840x18944 : Shape := ⟨2, ![3840, 18944]⟩
abbrev S3840x37888 : Shape := ⟨2, ![3840, 37888]⟩
abbrev S3840x3584 : Shape := ⟨2, ![3840, 3584]⟩

abbrev nBuf : Space → Nat
  | .hbm => 36
  | .vmem => 6
  | .smem => 0
  | _ => 0

abbrev bufTy : (tb : Table) → Fin (tcTables nBuf tb) → BufTy
  | .hbm, ⟨0, _⟩ => ⟨S2x3840x18944, .bf16⟩
  | .hbm, ⟨1, _⟩ => ⟨S8x128, .f32⟩
  | .hbm, ⟨2, _⟩ => ⟨S3584x37888, .fp8e4m3⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .i1⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8x128, .f32⟩
  | .hbm, ⟨26, _⟩ => ⟨S1x1, .f32⟩
  | .hbm, ⟨27, _⟩ => ⟨S_, .f32⟩
  | .hbm, ⟨28, _⟩ => ⟨S1x1, .f32⟩
  | .hbm, ⟨29, _⟩ => ⟨S1x3840x18944, .bf16⟩
  | .hbm, ⟨30, _⟩ => ⟨S3840x18944, .bf16⟩
  | .hbm, ⟨31, _⟩ => ⟨S1x3840x18944, .bf16⟩
  | .hbm, ⟨32, _⟩ => ⟨S3840x18944, .bf16⟩
  | .hbm, ⟨33, _⟩ => ⟨S3840x37888, .bf16⟩
  | .hbm, ⟨34, _⟩ => ⟨S3840x37888, .fp8e5m2⟩
  | .hbm, ⟨35, _⟩ => ⟨S3840x3584, .bf16⟩
  | .local _ .vmem, ⟨0, _⟩ => ⟨S1x1, .f32⟩
  | .local _ .vmem, ⟨1, _⟩ => ⟨S1x1, .f32⟩
  | .local _ .vmem, ⟨2, _⟩ => ⟨S3840x37888, .bf16⟩
  | .local _ .vmem, ⟨3, _⟩ => ⟨S3584x37888, .fp8e4m3⟩
  | .local _ .vmem, ⟨4, _⟩ => ⟨S3840x37888, .fp8e5m2⟩
  | .local _ .vmem, ⟨5, _⟩ => ⟨S3840x3584, .bf16⟩
  | _, _ => ⟨S2x3840x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_cst_4 : Ref sig .tc := ⟨.hbm, 17, rfl⟩
abbrev main_call0_v0 : Ref sig .tc := ⟨.hbm, 18, rfl⟩
abbrev main_v8 : Ref sig .tc := ⟨.hbm, 19, rfl⟩
abbrev main_cst_5 : Ref sig .tc := ⟨.hbm, 20, rfl⟩
abbrev main_v9 : Ref sig .tc := ⟨.hbm, 21, rfl⟩
abbrev main_v10 : Ref sig .tc := ⟨.hbm, 22, rfl⟩
abbrev main_cst_6 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21_0 : Ref sig .tc := ⟨.hbm, 34, rfl⟩
abbrev main_v21_1 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3840x37888 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584x37888 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3840x37888 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3840x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Dh.lean ====
abbrev S3840x3584 : Shape := ⟨2, ![3840, 3584]⟩
abbrev S18944x3584 : Shape := ⟨2, ![18944, 3584]⟩
abbrev S3x1280x37888 : Shape := ⟨3, ![3, 1280, 37888]⟩
abbrev S_ : Shape := ⟨0, ![]⟩
abbrev S3840x37888 : Shape := ⟨2, ![3840, 37888]⟩
abbrev S1 : Shape := ⟨1, ![1]⟩
abbrev S2x3840x18944 : Shape := ⟨3, ![2, 3840, 18944]⟩
abbrev S8x128 : Shape := ⟨2, ![8, 128]⟩
abbrev S768x3584 : Shape := ⟨2, ![768, 3584]⟩
abbrev S512x3584 : Shape := ⟨2, ![512, 3584]⟩
abbrev S768x512 : Shape := ⟨2, ![768, 512]⟩
abbrev S2x768x512 : Shape := ⟨3, ![2, 768, 512]⟩
abbrev S1x768x512 : Shape := ⟨3, ![1, 768, 512]⟩
abbrev S96x8x512 : Shape := ⟨3, ![96, 8, 512]⟩
abbrev S8x512 : Shape := ⟨2, ![8, 512]⟩

abbrev nBuf : Space → Nat
  | .hbm => 10
  | .vmem => 12
  | .smem => 1
  | _ => 0

abbrev bufTy : (tb : Table) → Fin (tcTables nBuf tb) → BufTy
  | .hbm, ⟨0, _⟩ => ⟨S3840x3584, .fp8e5m2⟩
  | .hbm, ⟨1, _⟩ => ⟨S18944x3584, .fp8e4m3⟩
  | .hbm, ⟨2, _⟩ => ⟨S3x1280x37888, .bf16⟩
  | .hbm, ⟨3, _⟩ => ⟨S_, .f32⟩
  | .hbm, ⟨4, _⟩ => ⟨S_, .f32⟩
  | .hbm, ⟨5, _⟩ => ⟨S3840x37888, .bf16⟩
  | .hbm, ⟨6, _⟩ => ⟨S_, .f32⟩
  | .hbm, ⟨7, _⟩ => ⟨S1, .f32⟩
  | .hbm, ⟨8, _⟩ => ⟨S2x3840x18944, .bf16⟩
  | .hbm, ⟨9, _⟩ => ⟨S8x128, .f32⟩
  | .local _ .vmem, ⟨0, _⟩ => ⟨S768x3584, .fp8e5m2⟩
  | .local _ .vmem, ⟨1, _⟩ => ⟨S768x3584, .fp8e5m2⟩
  | .local _ .vmem, ⟨2, _⟩ => ⟨S512x3584, .fp8e4m3⟩
  | .local _ .vmem, ⟨3, _⟩ => ⟨S512x3584, .fp8e4m3⟩
  | .local _ .vmem, ⟨4, _⟩ => ⟨S768x512, .bf16⟩
  | .local _ .vmem, ⟨5, _⟩ => ⟨S768x512, .bf16⟩
  | .local _ .vmem, ⟨6, _⟩ => ⟨S768x512, .bf16⟩
  | .local _ .vmem, ⟨7, _⟩ => ⟨S768x512, .bf16⟩
  | .local _ .vmem, ⟨8, _⟩ => ⟨S2x768x512, .bf16⟩
  | .local _ .vmem, ⟨9, _⟩ => ⟨S2x768x512, .bf16⟩
  | .local _ .vmem, ⟨10, _⟩ => ⟨S8x128, .f32⟩
  | .local _ .vmem, ⟨11, _⟩ => ⟨S8x128, .f32⟩
  | .local _ .smem, ⟨0, _⟩ => ⟨S1, .f32⟩
  | _, _ => ⟨S3840x3584, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [BitOps F]

abbrev grid0 : Pipeline.Grid := ⟨2, ![37, 5], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c37_i32 : BitVec 32 := 37#32
  let v0 : BitVec 32 := Scalar.addi arg0 c37_i32
  let c0_i32 : BitVec 32 := 0#32
  ![arg1.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S768x3584 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x3584 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S768x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x768x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== DhIdeal.lean ====
variable {F : FTy → Type} [FloatOps F]
-- ==== DhRefIdeal.lean ====
abbrev S3840x3584 : Shape := ⟨2, ![3840, 3584]⟩
abbrev S18944x3584 : Shape := ⟨2, ![18944, 3584]⟩
abbrev S3x1280x37888 : Shape := ⟨3, ![3, 1280, 37888]⟩
abbrev S_ : Shape := ⟨0, ![]⟩
abbrev S3840x37888 : Shape := ⟨2, ![3840, 37888]⟩
abbrev S1x1 : Shape := ⟨2, ![1, 1]⟩
abbrev S3840x18944 : Shape := ⟨2, ![3840, 18944]⟩
abbrev S2x3840x18944 : Shape := ⟨3, ![2, 3840, 18944]⟩
abbrev S8x128 : Shape := ⟨2, ![8, 128]⟩
abbrev S1x3840x18944 : Shape := ⟨3, ![1, 3840, 18944]⟩
abbrev S480x8x18944 : Shape := ⟨3, ![480, 8, 18944]⟩
abbrev S8x18944 : Shape := ⟨2, ![8, 18944]⟩
abbrev S8x148x128 : Shape := ⟨3, ![8, 148, 128]⟩

abbrev nBuf : Space → Nat
  | .hbm => 12
  | .vmem => 7
  | .smem => 0
  | _ => 0

abbrev bufTy : (tb : Table) → Fin (tcTables nBuf tb) → BufTy
  | .hbm, ⟨0, _⟩ => ⟨S3840x3584, .fp8e5m2⟩
  | .hbm, ⟨1, _⟩ => ⟨S18944x3584, .fp8e4m3⟩
  | .hbm, ⟨2, _⟩ => ⟨S3x1280x37888, .bf16⟩
  | .hbm, ⟨3, _⟩ => ⟨S_, .f32⟩
  | .hbm, ⟨4, _⟩ => ⟨S_, .f32⟩
  | .hbm, ⟨5, _⟩ => ⟨S3840x37888, .bf16⟩
  | .hbm, ⟨6, _⟩ => ⟨S_, .f32⟩
  | .hbm, ⟨7, _⟩ => ⟨S1x1, .f32⟩
  | .hbm, ⟨8, _⟩ => ⟨S3840x18944, .bf16⟩
  | .hbm, ⟨9, _⟩ => ⟨S3840x18944, .bf16⟩
  | .hbm, ⟨10, _⟩ => ⟨S2x3840x18944, .bf16⟩
  | .hbm, ⟨11, _⟩ => ⟨S8x128, .f32⟩
  | .local _ .vmem, ⟨0, _⟩ => ⟨S1x1, .f32⟩
  | .local _ .vmem, ⟨1, _⟩ => ⟨S3840x3584, .fp8e5m2⟩
  | .local _ .vmem, ⟨2, _⟩ => ⟨S18944x3584, .fp8e4m3⟩
  | .local _ .vmem, ⟨3, _⟩ => ⟨S3840x18944, .bf16⟩
  | .local _ .vmem, ⟨4, _⟩ => ⟨S3840x18944, .bf16⟩
  | .local _ .vmem, ⟨5, _⟩ => ⟨S2x3840x18944, .bf16⟩
  | .local _ .vmem, ⟨6, _⟩ => ⟨S8x128, .f32⟩
  | _, _ => ⟨S3840x3584, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3840x3584 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18944x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3840x18944 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3840x18944 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x3840x18944 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Dy.lean ====
abbrev S3x1280x3584 : Shape := ⟨3, ![3, 1280, 3584]⟩
abbrev S3840x3584 : Shape := ⟨2, ![3840, 3584]⟩
abbrev S8x128 : Shape := ⟨2, ![8, 128]⟩
abbrev S256x3584 : Shape := ⟨2, ![256, 3584]⟩
abbrev S32x8x3584 : Shape := ⟨3, ![32, 8, 3584]⟩
abbrev S8x3584 : Shape := ⟨2, ![8, 3584]⟩
abbrev S8 : Shape := ⟨1, ![8]⟩
abbrev S8x1 : Shape := ⟨2, ![8, 1]⟩
abbrev S1 : Shape := ⟨1, ![1]⟩
abbrev S1x1 : Shape := ⟨2, ![1, 1]⟩

abbrev nBuf : Space → Nat
  | .hbm => 4
  | .vmem => 6
  | .smem => 0
  | _ => 0

abbrev bufTy : (tb : Table) → Fin (tcTables nBuf tb) → BufTy
  | .hbm, ⟨0, _⟩ => ⟨S3x1280x3584, .bf16⟩
  | .hbm, ⟨1, _⟩ => ⟨S3840x3584, .bf16⟩
  | .hbm, ⟨2, _⟩ => ⟨S3840x3584, .fp8e5m2⟩
  | .hbm, ⟨3, _⟩ => ⟨S8x128, .f32⟩
  | .local _ .vmem, ⟨0, _⟩ => ⟨S256x3584, .bf16⟩
  | .local _ .vmem, ⟨1, _⟩ => ⟨S256x3584, .bf16⟩
  | .local _ .vmem, ⟨2, _⟩ => ⟨S256x3584, .fp8e5m2⟩
  | .local _ .vmem, ⟨3, _⟩ => ⟨S256x3584, .fp8e5m2⟩
  | .local _ .vmem, ⟨4, _⟩ => ⟨S8x128, .f32⟩
  | .local _ .vmem, ⟨5, _⟩ => ⟨S8x128, .f32⟩
  | _, _ => ⟨S3x1280x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![2, 15], ![false, false]⟩

def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x3584 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== DyRefIdeal.lean ====
abbrev S3x1280x3584 : Shape := ⟨3, ![3, 1280, 3584]⟩
abbrev S_ : Shape := ⟨0, ![]⟩
abbrev S8x128 : Shape := ⟨2, ![8, 128]⟩
abbrev S1x1 : Shape := ⟨2, ![1, 1]⟩
abbrev S3840x3584 : Shape := ⟨2, ![3840, 3584]⟩

abbrev nBuf : Space → Nat
  | .hbm => 28
  | .vmem => 3
  | .smem => 0
  | _ => 0

abbrev bufTy : (tb : Table) → Fin (tcTables nBuf tb) → BufTy
  | .hbm, ⟨0, _⟩ => ⟨S3x1280x3584, .bf16⟩
  | .hbm, ⟨1, _⟩ => ⟨S3x1280x3584, .f32⟩
  | .hbm, ⟨2, _⟩ => ⟨S3x1280x3584, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .i1⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8x128, .f32⟩
  | .hbm, ⟨25, _⟩ => ⟨S1x1, .f32⟩
  | .hbm, ⟨26, _⟩ => ⟨S3840x3584, .bf16⟩
  | .hbm, ⟨27, _⟩ => ⟨S3840x3584, .fp8e5m2⟩
  | .local _ .vmem, ⟨0, _⟩ => ⟨S1x1, .f32⟩
  | .local _ .vmem, ⟨1, _⟩ => ⟨S3840x3584, .bf16⟩
  | .local _ .vmem, ⟨2, _⟩ => ⟨S3840x3584, .fp8e5m2⟩
  | _, _ => ⟨S3x1280x3584, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_cst_3 : Ref sig .tc := ⟨.hbm, 14, rfl⟩
abbrev main_v9 : Ref sig .tc := ⟨.hbm, 15, rfl⟩
abbrev main_cst_4 : Ref sig .tc := ⟨.hbm, 16, rfl⟩
abbrev main_call0_v0 : Ref sig .tc := ⟨.hbm, 17, rfl⟩
abbrev main_v10 : Ref sig .tc := ⟨.hbm, 18, rfl⟩
abbrev main_cst_5 : Ref sig .tc := ⟨.hbm, 19, rfl⟩
abbrev main_v11 : Ref sig .tc := ⟨.hbm, 20, rfl⟩
abbrev main_v12 : Ref sig .tc := ⟨.hbm, 21, rfl⟩
abbrev main_cst_6 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3840x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3840x3584 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Dw1Values.lean ====
module

public import proofs.«01_k».proof.Defs
public import proofs.«01_k».proof.Proof.Gen.Dw1Ideal.Value
public import proofs.«01_k».proof.Proof.Gen.Dw1RefIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! # dW1: the kernel and the reference compute one function of the arguments

Both results are, at row `a` and column `b`, the sum over the 3840 tokens of the products of the input code at
`(token, a)` with the output-gradient code at `(token, b)`, times the product of the two scales. -/

namespace Cert.Dw1

/-- The weight gradient: `Σₜ X[t, a] · D[t, b]`, times the product of the two scales. The codes `x` come as batch ×
    sequence × feature and are read as token × feature. -/
def weightGradient (x : FVec Ideal ⟨3, ![3, 1280, 3584]⟩ .fp8e4m3) (sx : FVec Ideal ⟨0, ![]⟩ .f32)
    (d : FVec Ideal ⟨2, ![3840, 37888]⟩ .fp8e5m2) (sd : FVec Ideal ⟨0, ![]⟩ .f32) : FVec Ideal ⟨2, ![3584, 37888]⟩ .bf16 :=
  fun i => ((∑ k : Fin 3840, (shapeCast ⟨2, ![3840, 3584]⟩ x (by decide) (ix2 k (i 0)) : EReal) * (d (ix2 k (i 1)) : EReal))
    * ((sx ix0 : EReal) * (sd ix0 : EReal)) : EReal)

end Cert.Dw1

namespace Cert.Dw1Ideal.Hand

open Cert.Dw1Ideal Cert.Dw1Ideal.Gen Cert.Dw1Ideal.Value

variable (m : (ℓ : Loc nD τ sig) → Buf (Elt Ideal) ℓ)

/-- Which blocks the windows hold at a grid point. -/
theorem idx : ∀ t : Fin cfg0.N,
    win0_0.index t = ![0] ∧
    win0_1.index t = ![0, (grid0.coords t 1).val] ∧
    win0_2.index t = ![0, (grid0.coords t 0).val] ∧
    win0_3.index t = ![(grid0.coords t 1).val, (grid0.coords t 0).val] :=
  (by decide +kernel : ∀ t : Fin grid0.N, _)

/-- The kernel's result array is the weight gradient: every block is, and the blocks cover the array. -/
theorem final (c : Dev nD) : (dats m 0 c).arrAt 3 cfg0.N = Cert.Dw1.weightGradient
    (m ((c : Thread nD τ).loc main_arg0)) (m ((c : Thread nD τ).loc main_arg1))
    (m ((c : Thread nD τ).loc main_arg2)) (m ((c : Thread nD τ).loc main_arg3)) := by
  refine (dats m 0 c).arrAt_eq_of_covers 3 _ (by decide +kernel) fun t _ y => ?_
  blk_simp
  rw [after0_3]
  simp only [outsAt0]
  frame_out
  pointwise [k0_pay1, Cert.Dw1.weightGradient]
  blk_point [iblk, V, idx t]

end Cert.Dw1Ideal.Hand

namespace Cert.Dw1RefIdeal.Hand

open Cert.Dw1RefIdeal Cert.Dw1RefIdeal.Gen Cert.Dw1RefIdeal.Value

variable (m : (ℓ : Loc nD τ sig) → Buf (Elt Ideal) ℓ)

/-- The reference's one grid point holds the whole arrays. -/
theorem idx : ∀ t : Fin cfg0.N,
    win0_0.index t = ![0, 0] ∧ win0_1.index t = ![0, 0] ∧ win0_2.index t = ![0, 0] ∧ win0_3.index t = ![0, 0] :=
  (by decide +kernel : ∀ t : Fin grid0.N, _)

/-- The reference's result array is the weight gradient. -/
theorem final (c : Dev nD) : (dats m 0 c).arrAt 3 cfg0.N = Cert.Dw1.weightGradient
    (m ((c : Thread nD τ).loc main_arg0)) (m ((c : Thread nD τ).loc main_arg1))
    (m ((c : Thread nD τ).loc main_arg2)) (m ((c : Thread nD τ).loc main_arg3)) := by
  refine (dats m 0 c).arrAt_eq_of_covers 3 _ (by decide +kernel) fun t _ y => ?_
  blk_simp
  rw [after0_3]
  frame_out
  pointwise [k0_pay1, Cert.Dw1.weightGradient]
  blk_point [iblk, V, idx t]

end Cert.Dw1RefIdeal.Hand

namespace Cert.Dw1

open Cert.Dw1Ideal.Hand

/-- From equal arguments the kernel and the reference end with equal results. -/
theorem algebraic [hK : Cert.Dw1Ideal.Facts] [hR : Cert.Dw1RefIdeal.Facts] :
    algebraic_Dw1Ideal_Dw1RefIdeal := fun m ρ m' ρ' _ hag =>
  ⟨fun c => weightGradient (m ((c.tc : Thread Cert.Dw1Ideal.nD Cert.Dw1Ideal.τ).loc Cert.Dw1Ideal.main_arg0))
      (m ((c.tc : Thread Cert.Dw1Ideal.nD Cert.Dw1Ideal.τ).loc Cert.Dw1Ideal.main_arg1))
      (m ((c.tc : Thread Cert.Dw1Ideal.nD Cert.Dw1Ideal.τ).loc Cert.Dw1Ideal.main_arg2))
      (m ((c.tc : Thread Cert.Dw1Ideal.nD Cert.Dw1Ideal.τ).loc Cert.Dw1Ideal.main_arg3)),
    (θ_run Cert.Dw1Ideal.defs _ _).mono (fun r h c => ⟨(h c).1.trans (Cert.Dw1Ideal.Hand.final m c), (h c).2⟩)
      (Cert.Dw1Ideal.Value.run_blocks m ρ),
    (θ_run Cert.Dw1RefIdeal.defs _ _).mono (fun r h c => ⟨(h c).1.trans ((Cert.Dw1RefIdeal.Hand.final m' c).trans (by
        rw [(hag c).1, (hag c).2.1, (hag c).2.2.1, (hag c).2.2.2])), (h c).2⟩)
      (Cert.Dw1RefIdeal.Value.run_blocks m' ρ')⟩

end Cert.Dw1
-- ==== Proof.Dw2Values.lean ====
module

public import proofs.«01_k».proof.Defs
public import proofs.«01_k».proof.Proof.Gen.Dw2Ideal.Value
public import proofs.«01_k».proof.Proof.Gen.Dw2RefIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! # dW2: the kernel and the reference compute one function of the arguments

Both results are, at row `a` and column `b`, the sum over the 3840 tokens of the products of the input code at
`(token, a)` with the output-gradient code at `(token, b)`, times the product of the two scales. -/

namespace Cert.Dw2

/-- The weight gradient: `Σₜ X[t, a] · D[t, b]`, times the product of the two scales. The codes `x` come as batch ×
    sequence × feature and are read as token × feature. -/
def weightGradient (x : FVec Ideal ⟨3, ![3, 1280, 18944]⟩ .fp8e4m3) (sx : FVec Ideal ⟨0, ![]⟩ .f32)
    (d : FVec Ideal ⟨2, ![3840, 3584]⟩ .fp8e5m2) (sd : FVec Ideal ⟨0, ![]⟩ .f32) : FVec Ideal ⟨2, ![18944, 3584]⟩ .bf16 :=
  fun i => ((∑ k : Fin 3840, (shapeCast ⟨2, ![3840, 18944]⟩ x (by decide) (ix2 k (i 0)) : EReal) * (d (ix2 k (i 1)) : EReal))
    * ((sx ix0 : EReal) * (sd ix0 : EReal)) : EReal)

end Cert.Dw2

namespace Cert.Dw2Ideal.Hand

open Cert.Dw2Ideal Cert.Dw2Ideal.Gen Cert.Dw2Ideal.Value

variable (m : (ℓ : Loc nD τ sig) → Buf (Elt Ideal) ℓ)

/-- Which blocks the windows hold at a grid point. -/
theorem idx : ∀ t : Fin cfg0.N,
    win0_0.index t = ![0] ∧
    win0_1.index t = ![0, (grid0.coords t 1).val] ∧
    win0_2.index t = ![0, (grid0.coords t 0).val] ∧
    win0_3.index t = ![(grid0.coords t 1).val, (grid0.coords t 0).val] :=
  (by decide +kernel : ∀ t : Fin grid0.N, _)

/-- The kernel's result array is the weight gradient: every block is, and the blocks cover the array. -/
theorem final (c : Dev nD) : (dats m 0 c).arrAt 3 cfg0.N = Cert.Dw2.weightGradient
    (m ((c : Thread nD τ).loc main_arg0)) (m ((c : Thread nD τ).loc main_arg1))
    (m ((c : Thread nD τ).loc main_arg2)) (m ((c : Thread nD τ).loc main_arg3)) := by
  refine (dats m 0 c).arrAt_eq_of_covers 3 _ (by decide +kernel) fun t _ y => ?_
  blk_simp
  rw [after0_3]
  simp only [outsAt0]
  frame_out
  pointwise [k0_pay1, Cert.Dw2.weightGradient]
  blk_point [iblk, V, idx t]

end Cert.Dw2Ideal.Hand

namespace Cert.Dw2RefIdeal.Hand

open Cert.Dw2RefIdeal Cert.Dw2RefIdeal.Gen Cert.Dw2RefIdeal.Value

variable (m : (ℓ : Loc nD τ sig) → Buf (Elt Ideal) ℓ)

/-- The reference's one grid point holds the whole arrays. -/
theorem idx : ∀ t : Fin cfg0.N,
    win0_0.index t = ![0, 0] ∧ win0_1.index t = ![0, 0] ∧ win0_2.index t = ![0, 0] ∧ win0_3.index t = ![0, 0] :=
  (by decide +kernel : ∀ t : Fin grid0.N, _)

/-- The reference's result array is the weight gradient. -/
theorem final (c : Dev nD) : (dats m 0 c).arrAt 3 cfg0.N = Cert.Dw2.weightGradient
    (m ((c : Thread nD τ).loc main_arg0)) (m ((c : Thread nD τ).loc main_arg1))
    (m ((c : Thread nD τ).loc main_arg2)) (m ((c : Thread nD τ).loc main_arg3)) := by
  refine (dats m 0 c).arrAt_eq_of_covers 3 _ (by decide +kernel) fun t _ y => ?_
  blk_simp
  rw [after0_3]
  frame_out
  pointwise [k0_pay1, Cert.Dw2.weightGradient]
  blk_point [iblk, V, idx t]

end Cert.Dw2RefIdeal.Hand

namespace Cert.Dw2

open Cert.Dw2Ideal.Hand

/-- From equal arguments the kernel and the reference end with equal results. -/
theorem algebraic [hK : Cert.Dw2Ideal.Facts] [hR : Cert.Dw2RefIdeal.Facts] :
    algebraic_Dw2Ideal_Dw2RefIdeal := fun m ρ m' ρ' _ hag =>
  ⟨fun c => weightGradient (m ((c.tc : Thread Cert.Dw2Ideal.nD Cert.Dw2Ideal.τ).loc Cert.Dw2Ideal.main_arg0))
      (m ((c.tc : Thread Cert.Dw2Ideal.nD Cert.Dw2Ideal.τ).loc Cert.Dw2Ideal.main_arg1))
      (m ((c.tc : Thread Cert.Dw2Ideal.nD Cert.Dw2Ideal.τ).loc Cert.Dw2Ideal.main_arg2))
      (m ((c.tc : Thread Cert.Dw2Ideal.nD Cert.Dw2Ideal.τ).loc Cert.Dw2Ideal.main_arg3)),
    (θ_run Cert.Dw2Ideal.defs _ _).mono (fun r h c => ⟨(h c).1.trans (Cert.Dw2Ideal.Hand.final m c), (h c).2⟩)
      (Cert.Dw2Ideal.Value.run_blocks m ρ),
    (θ_run Cert.Dw2RefIdeal.defs _ _).mono (fun r h c => ⟨(h c).1.trans ((Cert.Dw2RefIdeal.Hand.final m' c).trans (by
        rw [(hag c).1, (hag c).2.1, (hag c).2.2.1, (hag c).2.2.2])), (h c).2⟩)
      (Cert.Dw2RefIdeal.Value.run_blocks m' ρ')⟩

end Cert.Dw2
-- ==== Proof.PowerOfTwoScale.lean ====
module

public import Idealize.ShloMosaic.Lib.Pipeline.ValueKit
public import Idealize.ShloMosaic.Lib.Pointwise
public import Idealize.ShloMosaic.PureOps.Ideal

@[expose] public section

noncomputable section

open Idealize.ShloMosaic

/-! # The quantiser's scale

The kernel finds the exponent field of a nonnegative number bit by bit, comparing with powers of two that it builds from
integer bits, and builds the scale and its inverse the same way. The reference says `2 ^ (⌊log₂ p⌋ + 1)`. Here the two
are shown to be the same number when `p` is 0 or lies between `2^-126` and `2^126`. -/

namespace Cert.Scale

/-- The number whose exponent field is `n` and whose fraction bits are zero. -/
def power (n : ℕ) : EReal := Ideal.ofBits .f32 (BitVec.ofNat 32 n <<< 23)

theorem pattern : ∀ n : Fin 256, ((BitVec.ofNat 32 n.val <<< 23).extractLsb' 31 1 = 0#1)
    ∧ ((BitVec.ofNat 32 n.val <<< 23).extractLsb' 23 8).toNat = n.val
    ∧ ((BitVec.ofNat 32 n.val <<< 23).extractLsb' 0 23).toNat = 0 := by decide +kernel

/-- Field 0 is zero. -/
theorem power_zero : power 0 = 0 := by simp [power, Ideal.ofBits, Ideal.ieee]

/-- Field 255 is infinity. -/
theorem power_top : power 255 = ⊤ := by
  have h := pattern 255
  simp [power, Ideal.ofBits, Ideal.ieee]

theorem zpow_shift (z : ℤ) : (2 : ℝ) ^ 23 * (2 : ℝ) ^ (z - 23) = (2 : ℝ) ^ z := by
  rw [← zpow_natCast, ← zpow_add₀ (by norm_num : (2 : ℝ) ≠ 0)]
  congr 1; push_cast; ring

/-- The fields between are powers of two. -/
theorem power_eq (n : ℕ) (h1 : 1 ≤ n) (h2 : n ≤ 254) : power n = (((2 : ℝ) ^ ((n : ℤ) - 127) : ℝ) : EReal) := by
  obtain ⟨ha, hb, hc⟩ := pattern ⟨n, by omega⟩
  simp only at ha hb hc
  have e0 : n ≠ 255 := by omega
  have e1 : n ≠ 0 := by omega
  have hz := congrArg (fun x : ℝ => (x : EReal)) (zpow_shift ((n : ℤ) - 127))
  simp only [EReal.coe_mul] at hz
  simp only [power, Ideal.ofBits, Ideal.ieee, ha, hb, hc]
  norm_num [e0, e1] at hz ⊢
  exact hz

theorem power_mono (a b : ℕ) (h : a ≤ b) (hb : b ≤ 255) : power a ≤ power b := by
  rcases Nat.eq_zero_or_pos a with rfl | ha
  · rw [power_zero]
    rcases Nat.eq_zero_or_pos b with rfl | hb0
    · rw [power_zero]
    rcases Nat.lt_or_ge b 255 with hb' | hb'
    · rw [power_eq b hb0 (by omega)]; exact_mod_cast (by positivity : (0 : ℝ) ≤ (2 : ℝ) ^ ((b : ℤ) - 127))
    · rw [show b = 255 by omega, power_top]; exact le_top
  · rcases Nat.lt_or_ge b 255 with hb' | hb'
    · rw [power_eq a ha (by omega), power_eq b (by omega) (by omega)]
      exact EReal.coe_le_coe_iff.mpr (zpow_le_zpow_right₀ (by norm_num : (1 : ℝ) ≤ 2) (by omega))
    · rw [show b = 255 by omega, power_top]; exact le_top

/-- One step of the kernel's search: try to set bit `b` of the field. -/
def step (p : EReal) (e b : BitVec 32) : BitVec 32 := if Ideal.ofBits .f32 ((e + b) <<< 23) ≤ p then e + b else e

/-- The kernel's search. -/
def field (p : EReal) : BitVec 32 :=
  step p (step p (step p (step p (step p (step p (step p (step p 0#32 128#32) 64#32) 32#32) 16#32) 8#32) 4#32) 2#32) 1#32

def stepNat (E a b : ℕ) : ℕ := if a + b ≤ E then a + b else a

theorem stepNat_le (E a b : ℕ) : stepNat E a b ≤ a + b := by unfold stepNat; split <;> omega

def fieldNat (E : ℕ) : ℕ :=
  stepNat E (stepNat E (stepNat E (stepNat E (stepNat E (stepNat E (stepNat E (stepNat E 0 128) 64) 32) 16) 8) 4) 2) 1

theorem fieldNat_eq : ∀ E : Fin 256, fieldNat E.val = E.val := by decide +kernel

/-- Comparing with the power of field `n` is comparing `n` with the field `E` of `p`. -/
theorem power_le_iff (p : EReal) (E n : ℕ) (hE : E ≤ 254) (h1 : power E ≤ p) (h2 : p < power (E + 1)) (hn : n ≤ 255) :
    power n ≤ p ↔ n ≤ E := by
  constructor
  · intro h
    by_contra hlt
    exact absurd (h.trans_lt h2) (not_lt.mpr (power_mono _ _ (by omega) hn))
  · intro h; exact (power_mono _ _ h (by omega)).trans h1

theorem step_eq (p : EReal) (E a b : ℕ) (hE : E ≤ 254) (h1 : power E ≤ p) (h2 : p < power (E + 1)) (hab : a + b ≤ 255) :
    step p (BitVec.ofNat 32 a) (BitVec.ofNat 32 b) = BitVec.ofNat 32 (stepNat E a b) := by
  have h := power_le_iff p E (a + b) hE h1 h2 hab
  rw [power, BitVec.ofNat_add] at h
  unfold step stepNat
  by_cases hc : a + b ≤ E
  · rw [if_pos (h.mpr hc), if_pos hc, BitVec.ofNat_add]
  · rw [if_neg (fun h' => hc (h.mp h')), if_neg hc]

/-- The search finds the field of `p`. -/
theorem field_eq (p : EReal) (E : ℕ) (hE : E ≤ 254) (h1 : power E ≤ p) (h2 : p < power (E + 1)) :
    field p = BitVec.ofNat 32 E := by
  have e := fieldNat_eq ⟨E, by omega⟩
  simp only at e
  rw [← e]
  unfold field fieldNat
  have l1 := stepNat_le E 0 128
  have l2 := stepNat_le E (stepNat E 0 128) 64
  have l3 := stepNat_le E (stepNat E (stepNat E 0 128) 64) 32
  have l4 := stepNat_le E (stepNat E (stepNat E (stepNat E 0 128) 64) 32) 16
  have l5 := stepNat_le E (stepNat E (stepNat E (stepNat E (stepNat E 0 128) 64) 32) 16) 8
  have l6 := stepNat_le E (stepNat E (stepNat E (stepNat E (stepNat E (stepNat E 0 128) 64) 32) 16) 8) 4
  have l7 := stepNat_le E (stepNat E (stepNat E (stepNat E (stepNat E (stepNat E (stepNat E 0 128) 64) 32) 16) 8) 4) 2
  rw [step_eq p E 0 128 hE h1 h2 (by omega), step_eq p E _ 64 hE h1 h2 (by omega), step_eq p E _ 32 hE h1 h2 (by omega),
    step_eq p E _ 16 hE h1 h2 (by omega), step_eq p E _ 8 hE h1 h2 (by omega), step_eq p E _ 4 hE h1 h2 (by omega),
    step_eq p E _ 2 hE h1 h2 (by omega), step_eq p E _ 1 hE h1 h2 (by omega)]

/-- The kernel's exponent of a number with field `f`: 0 at field 0. -/
def expo (f : BitVec 32) : BitVec 32 := if f = 0#32 then 0#32 else f - 126#32

/-- The kernel's scale and its inverse, of a number `p`. -/
def scaleBits (p : EReal) : EReal := Ideal.ofBits .f32 ((expo (field p) + 127#32) <<< 23)
def invBits (p : EReal) : EReal := Ideal.ofBits .f32 ((0#32 - expo (field p) + 127#32) <<< 23)

theorem expo_facts : ∀ E : Fin 253, 1 ≤ E.val → expo (BitVec.ofNat 32 E.val) + 127#32 = BitVec.ofNat 32 (E.val + 1)
    ∧ 0#32 - expo (BitVec.ofNat 32 E.val) + 127#32 = BitVec.ofNat 32 (253 - E.val) := by decide +kernel

theorem expo_zero : expo (BitVec.ofNat 32 0) + 127#32 = BitVec.ofNat 32 127
    ∧ 0#32 - expo (BitVec.ofNat 32 0) + 127#32 = BitVec.ofNat 32 127 := by decide +kernel

/-- The reference's exponent of `p`, and of 0 where the magnitude `a` is 0. -/
def exponent (a p : EReal) : EReal :=
  if a = 0 then 0 else Ideal.liftRound Int.floor (Ideal.div (Ideal.log p) (Ideal.log (2 : ℝ))) + 1

/-- `p` is the ratio of the magnitude `a`: both are 0, or `p` is in range. -/
def InRange (a p : EReal) : Prop := (a = 0 ∧ p = 0) ∨ (a ≠ 0 ∧ (((2 : ℝ) ^ (-126 : ℤ) : ℝ) : EReal) ≤ p ∧ p < (((2 : ℝ) ^ (126 : ℤ) : ℝ) : EReal))

theorem power_127 : power 127 = 1 := by rw [power_eq 127 (by omega) (by omega)]; norm_num

/-- The kernel's scale and inverse are the reference's powers of two. -/
theorem scale_eq (a p : EReal) (h : InRange a p) :
    scaleBits p = Ideal.pow (2 : ℝ) (exponent a p) ∧ invBits p = Ideal.pow (2 : ℝ) (-exponent a p) := by
  rcases h with ⟨ha, rfl⟩ | ⟨ha, hlo, hhi⟩
  · have hf : field 0 = BitVec.ofNat 32 0 := field_eq 0 0 (by omega) (by rw [power_zero]) (by
      rw [power_eq _ (by omega) (by omega)]; exact_mod_cast (by positivity : (0 : ℝ) < (2 : ℝ) ^ (((0 + 1 : ℕ) : ℤ) - 127)))
    have hz : exponent a 0 = ((0 : ℝ) : EReal) := by simp [exponent, ha]
    have hp : Ideal.pow (2 : ℝ) ((0 : ℝ) : EReal) = 1 := by
      show ((Real.rpow 2 0 : ℝ) : EReal) = 1
      simp
    have hn : -((0 : ℝ) : EReal) = ((0 : ℝ) : EReal) := by simp
    unfold scaleBits invBits
    rw [hf, expo_zero.1, expo_zero.2, hz, hn, hp]
    exact ⟨power_127, power_127⟩
  · induction p using EReal.rec with
    | bot => simp at hlo
    | top => simp at hhi
    | coe r =>
      have hlo' : (2 : ℝ) ^ (-126 : ℤ) ≤ r := by exact_mod_cast hlo
      have hhi' : r < (2 : ℝ) ^ (126 : ℤ) := by exact_mod_cast hhi
      have hr : 0 < r := lt_of_lt_of_le (by positivity) hlo'
      have hl2 : 0 < Real.log 2 := Real.log_pos (by norm_num)
      set k : ℤ := ⌊Real.log r / Real.log 2⌋ with hk
      have h1 : (2 : ℝ) ^ k ≤ r := by
        rw [← Real.log_le_log_iff (by positivity) hr, Real.log_zpow, ← le_div_iff₀ hl2]
        exact Int.floor_le _
      have h2 : r < (2 : ℝ) ^ (k + 1) := by
        rw [← Real.log_lt_log_iff hr (by positivity), Real.log_zpow, ← div_lt_iff₀ hl2]
        push_cast
        exact Int.lt_floor_add_one _
      have k1 : -126 ≤ k := by
        have := (zpow_lt_zpow_iff_right₀ (by norm_num : (1 : ℝ) < 2)).mp (hlo'.trans_lt h2); omega
      have k2 : k ≤ 125 := by
        have := (zpow_lt_zpow_iff_right₀ (by norm_num : (1 : ℝ) < 2)).mp (h1.trans_lt hhi'); omega
      obtain ⟨E, hE⟩ : ∃ E : ℕ, (E : ℤ) = k + 127 := ⟨(k + 127).toNat, by omega⟩
      have hf : field (r : EReal) = BitVec.ofNat 32 E := field_eq r E (by omega)
        (by rw [power_eq E (by omega) (by omega), show (E : ℤ) - 127 = k by omega]; exact_mod_cast h1)
        (by rw [power_eq (E + 1) (by omega) (by omega), show ((E + 1 : ℕ) : ℤ) - 127 = k + 1 by push_cast; omega]; exact_mod_cast h2)
      have hx : exponent a (r : EReal) = (((k + 1 : ℤ) : ℝ) : EReal) := by
        have d : Ideal.div (Ideal.log (r : EReal)) (Ideal.log ((2 : ℝ) : EReal)) = ((Real.log r / Real.log 2 : ℝ) : EReal) := by
          have e1 : Ideal.log (r : EReal) = (Real.log r : EReal) := by
            show (if r ≤ 0 then ⊥ else (Real.log r : EReal)) = _; rw [if_neg (not_le.mpr hr)]
          have e2 : Ideal.log ((2 : ℝ) : EReal) = (Real.log 2 : EReal) := by
            show (if (2 : ℝ) ≤ 0 then ⊥ else (Real.log 2 : EReal)) = _; rw [if_neg (by norm_num)]
          have e3 : (Real.log 2 : EReal) ≠ 0 := by exact_mod_cast hl2.ne'
          rw [e1, e2, Ideal.div, if_neg e3, div_eq_mul_inv, EReal.coe_mul, EReal.coe_inv]
        rw [exponent, if_neg ha, d]
        show ((⌊Real.log r / Real.log 2⌋ : ℝ) : EReal) + 1 = _
        rw [← hk]; push_cast; rfl
      have g := expo_facts ⟨E, by omega⟩ (by simp only; omega)
      simp only at g
      have hneg : -(((k + 1 : ℤ) : ℝ) : EReal) = (((-(k + 1) : ℤ) : ℝ) : EReal) := by push_cast; rfl
      have hpow : ∀ j : ℤ, Ideal.pow (2 : ℝ) (((j : ℤ) : ℝ) : EReal) = (((2 : ℝ) ^ j : ℝ) : EReal) := by
        intro j
        show ((Real.rpow 2 (j : ℝ) : ℝ) : EReal) = _
        exact congrArg _ (Real.rpow_intCast 2 j)
      unfold scaleBits invBits
      rw [hf, g.1, g.2, hx, hneg, hpow, hpow]
      constructor
      · have := power_eq (E + 1) (by omega) (by omega)
        rw [show ((E + 1 : ℕ) : ℤ) - 127 = k + 1 by push_cast; omega] at this
        exact this
      · have := power_eq (253 - E) (by omega) (by omega)
        rw [show ((253 - E : ℕ) : ℤ) - 127 = -(k + 1) by omega] at this
        exact this

/-- The kernel's step on whole vectors. -/
def stepV {s : Shape} (p : FVec Ideal s .f32) (e : IVec s 32) (b : BitVec 32) : IVec s 32 :=
  select (cmpf .oge p (bitcastToFloat .f32 (shli (addi e (broadcast s b)) (broadcast s 23#32)))) (addi e (broadcast s b)) e

theorem shli_23 (x : BitVec 32) : IntOp.shli .vector x 23#32 = x <<< 23 := rfl

/-- It is the step at every element. -/
theorem stepV_apply {s : Shape} (p : FVec Ideal s .f32) (e : IVec s 32) (b : BitVec 32) (i : s.Idx) :
    stepV p e b i = step (p i) (e i) b := by
  pointwise [stepV, step]
  simp only [shli_23, IntOp.addi]
  exact if_congr Iff.rfl rfl rfl

/-- The kernel's exponent of the field, as the kernel spells it. -/
theorem expo_spelt (f : BitVec 32) : Scalar.select (IntOp.cmpi .eq f 0#32) 0#32 (IntOp.subi f 126#32) = expo f := by
  unfold expo Scalar.select IntOp.cmpi IntOp.subi
  by_cases h : f = 0#32
  · simp [h]
  · have hb : (f == 0#32) = false := beq_eq_false_iff_ne.mpr h
    simp [h, hb]

/-- The reference's exponent on the host, as the reference spells it. -/
def hostExponent {s : Shape} (amax : FVec Ideal s .f32) : FVec Ideal s .f32 :=
  select (cmpf .oeq amax (constant s .f32 0#32)) (constant s .f32 0#32)
    (addf (Host.floor (Host.divf (Host.log (mulf amax (constant s .f32 932333861#32))) (Host.log (constant s .f32 1073741824#32))))
      (constant s .f32 1065353216#32))

/-- The f32 nearest to 1 / 57344, by which both programs multiply the largest magnitude. -/
def unit : EReal := Ideal.ofBits .f32 932333861#32

theorem ofBits_two : Ideal.ofBits .f32 1073741824#32 = ((2 : ℝ) : EReal) := by
  simp [Ideal.ofBits, Ideal.ieee, -EReal.coe_mul]; norm_num

theorem ofBits_one : Ideal.ofBits .f32 1065353216#32 = 1 := by
  simp [Ideal.ofBits, Ideal.ieee, -EReal.coe_mul]; norm_num

theorem ofBits_low : Ideal.ofBits .f32 8388608#32 = (((2 : ℝ) ^ (-126 : ℤ) : ℝ) : EReal) := power_eq 1 (by omega) (by omega)

theorem ofBits_high : Ideal.ofBits .f32 2122317824#32 = (((2 : ℝ) ^ (126 : ℤ) : ℝ) : EReal) := power_eq 253 (by omega) (by omega)

/-- The host's exponent is `exponent` of the magnitude and its ratio. -/
theorem hostExponent_apply {s : Shape} (amax : FVec Ideal s .f32) (i : s.Idx) :
    hostExponent amax i = exponent (amax i : EReal) ((amax i : EReal) * unit) := by
  pointwise [hostExponent, exponent, unit]
  simp only [ofBits_two, ofBits_one]

/-- The largest element of an array of partial maxima. -/
def largest (a : FVec Ideal ⟨2, ![8, 128]⟩ .f32) : EReal :=
  Finset.fold max (Ideal.ofBits .f32 4286578688#32) (fun k : Fin 8 × Fin 128 => (a (ix2 k.1 k.2) : EReal)) Finset.univ

/-- Maxima of rows, then the maximum of these, is the maximum of all. -/
theorem fold_rows {α β : Type} [Fintype α] [Fintype β] (b : EReal) (f : α → β → EReal) :
    Finset.fold max b (fun x => Finset.fold max b (fun y => f x y) Finset.univ) Finset.univ
      = Finset.fold max b (fun k : α × β => f k.1 k.2) Finset.univ := by
  refine eq_of_forall_ge_iff fun c => ?_
  simp only [Finset.fold_max_le, Finset.mem_univ, true_implies, Prod.forall]
  constructor
  · rintro ⟨h, g⟩; exact ⟨h, fun x y => (g x).2 y⟩
  · rintro ⟨h, g⟩; exact ⟨h, fun x => ⟨h, g x⟩⟩

/-- What the precondition says of the magnitude `a`. -/
theorem inRange_of_pre (a : EReal) (h : IntOp.ori (BitVec.ofBool (decide (a = 0))) (IntOp.andi
      (BitVec.ofBool (decide (Ideal.ofBits .f32 8388608#32 ≤ a * Ideal.ofBits .f32 932333861#32)))
      (BitVec.ofBool (decide (a * Ideal.ofBits .f32 932333861#32 < Ideal.ofBits .f32 2122317824#32)))) = 1#1) :
    InRange a (a * unit) := by
  rw [ofBits_low, ofBits_high] at h
  by_cases h0 : a = 0
  · left; exact ⟨h0, by rw [h0, zero_mul]⟩
  · right
    by_cases h1 : (((2 : ℝ) ^ (-126 : ℤ) : ℝ) : EReal) ≤ a * Ideal.ofBits .f32 932333861#32
    · by_cases h2 : a * Ideal.ofBits .f32 932333861#32 < (((2 : ℝ) ^ (126 : ℤ) : ℝ) : EReal)
      · exact ⟨h0, h1, h2⟩
      · exfalso; rw [decide_eq_false h0, decide_eq_false h2] at h; revert h
        cases decide ((((2 : ℝ) ^ (-126 : ℤ) : ℝ) : EReal) ≤ a * Ideal.ofBits .f32 932333861#32) <;> decide
    · exfalso; rw [decide_eq_false h0, decide_eq_false h1] at h; revert h
      cases decide (a * Ideal.ofBits .f32 932333861#32 < (((2 : ℝ) ^ (126 : ℤ) : ℝ) : EReal)) <;> decide

end Cert.Scale
-- ==== Proof.DxMath.lean ====
module

public import proofs.«01_k».proof.Proof.PowerOfTwoScale
public import Idealize.ShloMosaic.Lib.Pipeline.ValueKit
public import Idealize.ShloMosaic.Lib.Pointwise
public import Idealize.ShloMosaic.Lib.Claim
public import Idealize.ShloMosaic.Lib.Tactic.CleanTypes
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

/-! # dX: the functions both programs compute -/

namespace Cert.Dx

/-- A code: a value times the inverse scale, clipped to the format's range. -/
def clip (x inv : EReal) : EReal := min (Ideal.ofBits .f32 1197473792#32) (max (Ideal.ofBits .f32 3344957440#32) (x * inv))

/-- The codes of dH: every entry times the inverse scale, clipped. The two halves of dH lie side by side. -/
def codes (dh : FVec Ideal ⟨3, ![2, 3840, 18944]⟩ .bf16) (inv : EReal) : FVec Ideal ⟨2, ![3840, 37888]⟩ .fp8e5m2 :=
  fun i => clip (dh (ix3 ⟨(i 1 : ℕ) / 18944, by have : (i 1 : ℕ) < 37888 := (i 1).isLt; omega⟩ (i 0)
    ⟨(i 1 : ℕ) % 18944, by omega⟩)) inv

/-- The input gradient: `Σ_l codes[i, l] · W1[j, l]`, times the product of the two scales. -/
def inputGradient (dh : FVec Ideal ⟨3, ![2, 3840, 18944]⟩ .bf16) (inv s : EReal)
    (w : FVec Ideal ⟨2, ![3584, 37888]⟩ .fp8e4m3) (sw : FVec Ideal ⟨0, ![]⟩ .f32) : FVec Ideal ⟨2, ![3840, 3584]⟩ .bf16 :=
  fun i => ((∑ l : Fin 37888, (codes dh inv (ix2 (i 0) l) : EReal) * (w (ix2 (i 1) l) : EReal)) * (s * (sw ix0 : EReal)) : EReal)

/-- The scale, repeated over a tile. -/
def scale (s : EReal) : FVec Ideal ⟨2, ![8, 128]⟩ .f32 := fun _ => s

end Cert.Dx
-- ==== Proof.DxKernel.lean ====
module

public import proofs.«01_k».proof.Proof.DxMath
public import proofs.«01_k».proof.Proof.Gen.DxIdeal.Value
public import Idealize.ShloMosaic.Lib.Pipeline.ValueKit
public import Idealize.ShloMosaic.Lib.Pointwise
public import Idealize.ShloMosaic.Lib.Claim
public import Idealize.ShloMosaic.Lib.Tactic.CleanTypes
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! # dX: what the kernel's result arrays hold -/

namespace Cert.DxIdeal.Hand

open Cert.DxIdeal Cert.DxIdeal.Gen Cert.DxIdeal.Value

/-- The exponent field of the ratio, as the kernel computes it from the partial maxima. -/
abbrev fieldOf (a : FVec Ideal S8x128 .f32) : IVec S8x128 32 := k0_pay6 (k0_pay4 (F := Ideal) a) (k0_pay5 (F := Ideal) a)

/-- The kernel's search for the exponent field, read at one element. -/
theorem field_apply (a : FVec Ideal S8x128 .f32) (i : S8x128.Idx) :
    fieldOf a i = Cert.Scale.field (k0_pay4 (F := Ideal) a i) := by
  have h5 : k0_pay5 (F := Ideal) a = Cert.Scale.stepV (k0_pay4 (F := Ideal) a) (Cert.Scale.stepV (k0_pay4 (F := Ideal) a)
      (Cert.Scale.stepV (k0_pay4 (F := Ideal) a) (broadcast S8x128 0#32) 128#32) 64#32) 32#32 := rfl
  have h6 (p : FVec Ideal S8x128 .f32) (e : IVec S8x128 32) : k0_pay6 (F := Ideal) p e =
      Cert.Scale.stepV p (Cert.Scale.stepV p (Cert.Scale.stepV p (Cert.Scale.stepV p (Cert.Scale.stepV p e 16#32) 8#32) 4#32) 2#32) 1#32 := rfl
  unfold fieldOf
  rw [h6, h5]
  simp only [Cert.Scale.stepV_apply]
  rfl

/-- The number searched: the largest magnitude times the unit, at every element. -/
theorem ratio_apply (a : FVec Ideal S8x128 .f32) (i : S8x128.Idx) :
    k0_pay4 (F := Ideal) a i = Cert.Scale.largest a * Cert.Scale.unit := by
  pointwise [k0_pay4]
  rw [Cert.Scale.fold_rows]
  rfl

theorem scale_apply (a : FVec Ideal S8x128 .f32) (i : S8x128.Idx) :
    k0_pay8 (F := Ideal) (fieldOf a) i = Cert.Scale.scaleBits (Cert.Scale.largest a * Cert.Scale.unit) := by
  pointwise [k0_pay8, k0_pay7]
  rw [Cert.Scale.expo_spelt, field_apply, ratio_apply]
  rfl

theorem codes_apply (a : FVec Ideal S8x128 .f32) (v : FVec Ideal S1x960x512 .bf16) (i : S960x512.Idx) :
    k0_pay9 (F := Ideal) (fieldOf a) v i = Cert.Dx.clip (v (ix3 0 (i 0) (i 1)))
      (Cert.Scale.invBits (Cert.Scale.largest a * Cert.Scale.unit)) := by
  pointwise [k0_pay9, k0_pay7]
  rw [Cert.Scale.expo_spelt, field_apply, ratio_apply]
  rfl

theorem product_apply (f : IVec S8x128 32) (v : FVec Ideal S1x960x512 .bf16) (acc : FVec Ideal S960x3584 .f32)
    (w : FVec Ideal S3584x512 .fp8e4m3) (i : S960x3584.Idx) :
    k0_pay1 (k0_pay10 (F := Ideal) f v acc w) i
      = (acc i : EReal) + ∑ k : Fin 512, (k0_pay9 (F := Ideal) f v (ix2 (i 0) k) : EReal) * (w (ix2 (i 1) k) : EReal) := by
  pointwise [k0_pay1, k0_pay10]

theorem zero_apply (i : S960x3584.Idx) : k0_pay3 (F := Ideal) i = 0 := by
  pointwise [k0_pay3]

variable (m : (ℓ : Loc nD τ sig) → Buf (Elt Ideal) ℓ)

/-- Which blocks the windows hold at a grid point. -/
theorem idx : ∀ t : Fin cfg0.N,
    win0_0.index t = ![0, 0] ∧
    win0_1.index t = ![0] ∧
    win0_2.index t = ![t.val % 74 / 37, t.val / 74, t.val % 74 % 37] ∧
    win0_3.index t = ![0, t.val % 74] ∧
    win0_4.index t = ![t.val / 74, 0] ∧
    win0_5.index t = ![t.val / 74, t.val % 74] ∧
    win0_6.index t = ![0, 0] :=
  (by decide +kernel : ∀ t : Fin grid0.N, _)

/-- The block of partial maxima is the whole array, at every point. -/
theorem maxima (c : Dev nD) (t : Fin cfg0.N) :
    (iblk m c 0 t : FVec Ideal S8x128 .f32) = m ((c : Thread nD τ).loc main_arg1) := by
  funext y
  blk_point [iblk, V, idx t]

/-- The scale written at any point. -/
theorem scale_out (c : Dev nD) (t : Fin cfg0.N) :
    (outsAt0 m c t.val t.isLt).2.2.1 = k0_pay8 (F := Ideal) (fieldOf (iblk m c 0 t)) := by
  by_cases h0 : t.val % 74 = 0
  · rw [outsAt0_A m c t h0 (by omega)]; frame_out
  · by_cases h1 : t.val % 74 = 73
    · rw [outsAt0_C m c t h0 h1]; frame_out
    · rw [outsAt0_B m c t h0 h1]; frame_out

/-- The codes written at any point. -/
theorem codes_out (c : Dev nD) (t : Fin cfg0.N) :
    (outsAt0 m c t.val t.isLt).2.1 = k0_pay9 (F := Ideal) (fieldOf (iblk m c 0 t)) (iblk m c 2 t) := by
  by_cases h0 : t.val % 74 = 0
  · rw [outsAt0_A m c t h0 (by omega)]; frame_out
  · by_cases h1 : t.val % 74 = 73
    · rw [outsAt0_C m c t h0 h1]; frame_out
    · rw [outsAt0_B m c t h0 h1]; frame_out

/-- The result written at the last point of a run: the accumulated sum times the scales. -/
theorem dx_out (c : Dev nD) (t : Fin cfg0.N) (h1 : t.val % 74 = 73) (i : S960x3584.Idx) :
    (outsAt0 m c t.val t.isLt).1 i = ((outsAt0 m c t.val t.isLt).2.2.2 i : EReal)
      * ((k0_pay8 (F := Ideal) (fieldOf (iblk m c 0 t)) (ix2 0 0) : EReal) * ((iblk m c 1 t : FVec Ideal S1 .f32) (ix1 0) : EReal)) := by
  rw [outsAt0_C m c t (by omega) h1]
  frame_out
  pointwise [k0_pay2, k0_pay1]

/-- One entry of the codes a point writes. -/
theorem codes_at (c : Dev nD) (t : Fin cfg0.N) (i : S960x512.Idx) :
    k0_pay9 (F := Ideal) (fieldOf (iblk m c 0 t)) (iblk m c 2 t) i = Cert.Dx.clip (iblk m c 2 t (ix3 0 (i 0) (i 1)))
        (Cert.Scale.invBits (Cert.Scale.largest (m ((c : Thread nD τ).loc main_arg1)) * Cert.Scale.unit)) := by
  rw [codes_apply, maxima]

/-- The scale array: the kernel's scale at every element. -/
theorem final_scale (c : Dev nD) : (dats m 0 c).arrAt 6 cfg0.N = Cert.Dx.scale
    (Cert.Scale.scaleBits (Cert.Scale.largest (m ((c : Thread nD τ).loc main_arg1)) * Cert.Scale.unit)) := by
  refine (dats m 0 c).arrAt_eq_of_covers 6 _ (by decide +kernel) fun t _ y => ?_
  blk_simp
  rw [after0_6, scale_out, scale_apply, maxima]
  rfl

/-- The code array. -/
theorem final_codes (c : Dev nD) : (dats m 0 c).arrAt 5 cfg0.N = Cert.Dx.codes (m ((c : Thread nD τ).loc main_arg0))
    (Cert.Scale.invBits (Cert.Scale.largest (m ((c : Thread nD τ).loc main_arg1)) * Cert.Scale.unit)) := by
  refine (dats m 0 c).arrAt_eq_of_covers 5 _ (by decide +kernel) fun t _ y => ?_
  blk_simp
  rw [after0_5, codes_out, codes_at]
  simp only [Cert.Dx.codes]
  refine congrArg (fun x => Cert.Dx.clip x _) ?_
  blk_point [iblk, V, idx t]

/-- The input gradient: the blocks of 512 features add up to the sum over all of them. -/
theorem final_dx (c : Dev nD) : (dats m 0 c).arrAt 4 cfg0.N = Cert.Dx.inputGradient (m ((c : Thread nD τ).loc main_arg0))
    (Cert.Scale.invBits (Cert.Scale.largest (m ((c : Thread nD τ).loc main_arg1)) * Cert.Scale.unit))
    (Cert.Scale.scaleBits (Cert.Scale.largest (m ((c : Thread nD τ).loc main_arg1)) * Cert.Scale.unit))
    (m ((c : Thread nD τ).loc main_arg2)) (m ((c : Thread nD τ).loc main_arg3)) := by
  refine (dats m 0 c).arrAt_eq_of_covers 4 _ (by decide +kernel) fun t hf y => ?_
  blk_simp
  rw [after0_4, dx_out m c t ((flush0_4 t).mp hf), Pipeline.eq_sum_fin_of_reset_step_apply_of_flush (fun n h => (outsAt0 m c n h).2.2.2) 74 (fun _ => 0) _
    (fun t h j => by rw [outsAt0_A m c t h (by omega)]; frame_out; rw [product_apply, zero_apply])
    (fun t h j => by
      by_cases h1 : t.val % 74 = 73
      · rw [outsAt0_C m c t h h1]; frame_out; rw [product_apply]; rw [read_unread_whole]
      · rw [outsAt0_B m c t h h1]; frame_out; rw [product_apply]; rw [read_unread_whole])
    t ((flush0_4 t).mp hf) _, zero_add, scale_apply, maxima]
  simp only [Cert.Dx.inputGradient]
  refine Ideal.mul_congr ?_ (Ideal.mul_congr rfl ?_)
  · refine Fin.sum_mul_add_congr fun s k hl => ?_
    refine Ideal.mul_congr ?_ ?_
    · refine (codes_at m c _ _).trans ?_
      simp only [Cert.Dx.codes]
      refine congrArg (fun x => Cert.Dx.clip x _) ?_
      blk_point [iblk, V, idx t, idx ⟨_, Pipeline.run_point_lt_of_flush t ((flush0_4 t).mp hf) s⟩]
    · blk_point [iblk, V, idx t, idx ⟨_, Pipeline.run_point_lt_of_flush t ((flush0_4 t).mp hf) s⟩]
  · blk_point [iblk, V, idx t]

end Cert.DxIdeal.Hand
-- ==== Proof.DxReference.lean ====
module

public import proofs.«01_k».proof.Proof.DxMath
public import proofs.«01_k».proof.Proof.Gen.DxRefIdeal.Value
public import Idealize.ShloMosaic.Lib.Pipeline.ValueKit
public import Idealize.ShloMosaic.Lib.Pointwise
public import Idealize.ShloMosaic.Lib.Claim
public import Idealize.ShloMosaic.Lib.Tactic.CleanTypes
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

/-! # dX: what the reference's result arrays hold -/

namespace Cert.DxRefIdeal.Hand

open Cert.DxRefIdeal Cert.DxRefIdeal.Gen Cert.DxRefIdeal.Value

variable (m : (ℓ : Loc nD τ sig) → Buf (Elt Ideal) ℓ)

/-- The largest magnitude, as the host computes it. -/
abbrev amax (c : Dev nD) : FVec Ideal S_ .f32 :=
  Host.reduce FloatOps.maximumf (m ((c : Thread nD τ).loc main_arg1) : FVec Ideal S8x128 .f32) (constant S_ .f32 0xFF800000#32) reducesTo_S8x128_S_d0_1 h_S_

theorem largest_apply (a : FVec Ideal S8x128 .f32) (i : S_.Idx) :
    Host.reduce FloatOps.maximumf a (constant S_ .f32 0xFF800000#32) reducesTo_S8x128_S_d0_1 h_S_ i = Cert.Scale.largest a := by
  pointwise [Cert.Scale.largest]

theorem amax_apply (c : Dev nD) (i : S_.Idx) : amax m c i = Cert.Scale.largest (m ((c : Thread nD τ).loc main_arg1)) := by
  exact largest_apply _ i

/-- The exponent of the reference's scale. -/
abbrev expo (c : Dev nD) : EReal := Cert.Scale.exponent (Cert.Scale.largest (m ((c : Thread nD τ).loc main_arg1)))
  (Cert.Scale.largest (m ((c : Thread nD τ).loc main_arg1)) * Cert.Scale.unit)

theorem expo_apply (c : Dev nD) (i : S_.Idx) : Cert.Scale.hostExponent (amax m c) i = expo m c := by
  rw [Cert.Scale.hostExponent_apply, amax_apply]

/-- The scale array, written before the region. -/
theorem V_scale (c : Dev nD) : V m c main_v12 = broadcastInDim S8x128 ![] bcast_S_S8x128
    (Host.powf (constant S_ .f32 1073741824#32) (Cert.Scale.hostExponent (amax m c))) := by
  after_reads_simp
  simp -implicitDefEqProofs only [StableHlo.TRef.toBuf, StableHlo.TRef.ofBuf, cast_eq, id_eq]
  rfl

theorem V_inv (c : Dev nD) : V m c main_v13 = shapeCast S1x1
    (Host.powf (constant S_ .f32 1073741824#32) (Host.negf (Cert.Scale.hostExponent (amax m c)))) shapeCasts_S_S1x1 := by
  after_reads_simp
  simp -implicitDefEqProofs only [StableHlo.TRef.toBuf, StableHlo.TRef.ofBuf, cast_eq, id_eq]
  rfl

theorem V_factor (c : Dev nD) : V m c main_v15 = shapeCast S1x1
    (mulf (Host.powf (constant S_ .f32 1073741824#32) (Cert.Scale.hostExponent (amax m c)))
      (m ((c : Thread nD τ).loc main_arg3) : FVec Ideal S_ .f32)) shapeCasts_S_S1x1 := by
  after_reads_simp
  simp -implicitDefEqProofs only [StableHlo.TRef.toBuf, StableHlo.TRef.ofBuf, cast_eq, id_eq]
  rfl

/-- The two halves of dH side by side. -/
abbrev joined (a b : FVec Ideal S3840x18944 .bf16) : FVec Ideal S3840x37888 .bf16 :=
  concatenate S3840x37888 1 [⟨S3840x18944, a⟩, ⟨S3840x18944, b⟩] concatenates_S3840x18944_S3840x18944_S3840x37888_d1

abbrev half0 (dh : FVec Ideal S2x3840x18944 .bf16) : FVec Ideal S3840x18944 .bf16 :=
  shapeCast S3840x18944 (extractStridedSlice S1x3840x18944 ![0, 0, 0] dh slices_S2x3840x18944_S1x3840x18944_0_0_0) shapeCasts_S1x3840x18944_S3840x18944

abbrev half1 (dh : FVec Ideal S2x3840x18944 .bf16) : FVec Ideal S3840x18944 .bf16 :=
  shapeCast S3840x18944 (extractStridedSlice S1x3840x18944 ![1, 0, 0] dh slices_S2x3840x18944_S1x3840x18944_1_0_0) shapeCasts_S1x3840x18944_S3840x18944

theorem V_dh (c : Dev nD) : V m c main_v20 = joined (half0 (m ((c : Thread nD τ).loc main_arg0))) (half1 (m ((c : Thread nD τ).loc main_arg0))) := by
  after_reads_simp
  refine congrArg₂ (fun a b => joined a b) ?_ ?_
  · after_reads_simp
    rfl
  · after_reads_simp
    rfl

/-- One entry of dH: column `l` of the joined array is column `l % 18944` of half `l / 18944`. -/
theorem joined_apply (dh : FVec Ideal S2x3840x18944 .bf16) (i : S3840x37888.Idx) :
    joined (half0 dh) (half1 dh) i = dh (ix3 ⟨(i 1 : ℕ) / 18944, by have : (i 1 : ℕ) < 37888 := (i 1).isLt; omega⟩ (i 0)
      ⟨(i 1 : ℕ) % 18944, by omega⟩) := by
  pointwise [joined, half0, half1]
  blk_point []

/-- The reference's one grid point holds the whole arrays. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

theorem inv_block (c : Dev nD) (t : Fin cfg0.N) (y : S1x1.Idx) : iblk m c 0 t y = Ideal.pow (2 : ℝ) (-expo m c) := by
  have h : iblk m c 0 t y = V m c main_v13 y := by
    unfold iblk
    generalize V m c = W
    blk_point [idx t]
  rw [h, V_inv]
  pointwise
  rw [expo_apply, Cert.Scale.ofBits_two]

theorem factor_block (c : Dev nD) (t : Fin cfg0.N) (y : S1x1.Idx) : iblk m c 1 t y
    = (Ideal.pow (2 : ℝ) (expo m c) * ((m ((c : Thread nD τ).loc main_arg3) : FVec Ideal S_ .f32) ix0 : EReal) : EReal) := by
  have h : iblk m c 1 t y = V m c main_v15 y := by
    unfold iblk
    generalize V m c = W
    blk_point [idx t]
  rw [h, V_factor]
  pointwise
  rw [expo_apply, Cert.Scale.ofBits_two]

theorem dh_block (c : Dev nD) (t : Fin cfg0.N) (y : S3840x37888.Idx) : iblk m c 2 t y
    = (m ((c : Thread nD τ).loc main_arg0) : FVec Ideal S2x3840x18944 .bf16)
        (ix3 ⟨(y 1 : ℕ) / 18944, by have : (y 1 : ℕ) < 37888 := (y 1).isLt; omega⟩ (y 0) ⟨(y 1 : ℕ) % 18944, by omega⟩) := by
  have h : iblk m c 2 t y = V m c main_v20 y := by
    unfold iblk
    generalize V m c = W
    blk_point [idx t]
  rw [h, V_dh]
  exact joined_apply _ y

theorem codes_at (c : Dev nD) (t : Fin cfg0.N) (i : S3840x37888.Idx) :
    k0_pay1 (F := Ideal) (iblk m c 2 t) (iblk m c 0 t) i
      = Cert.Dx.codes (m ((c : Thread nD τ).loc main_arg0)) (Ideal.pow (2 : ℝ) (-expo m c)) i := by
  pointwise [k0_pay1]
  erw [inv_block, dh_block]
  rfl

/-- The code array. -/
theorem final_codes (c : Dev nD) : (dats m 0 c).arrAt 4 cfg0.N
    = Cert.Dx.codes (m ((c : Thread nD τ).loc main_arg0)) (Ideal.pow (2 : ℝ) (-expo m c)) := by
  refine (dats m 0 c).arrAt_eq_of_covers 4 _ (by decide +kernel) fun t _ y => ?_
  blk_simp
  rw [after0_4]
  frame_out
  refine (codes_at m c t _).trans (congrArg _ ?_)
  blk_ext [idx t]

/-- The input gradient. -/
theorem final_dx (c : Dev nD) : (dats m 0 c).arrAt 5 cfg0.N
    = Cert.Dx.inputGradient (m ((c : Thread nD τ).loc main_arg0)) (Ideal.pow (2 : ℝ) (-expo m c)) (Ideal.pow (2 : ℝ) (expo m c))
        (m ((c : Thread nD τ).loc main_arg2)) (m ((c : Thread nD τ).loc main_arg3)) := by
  refine (dats m 0 c).arrAt_eq_of_covers 5 _ (by decide +kernel) fun t _ y => ?_
  blk_simp
  rw [after0_5]
  frame_out
  pointwise [k0_pay2]
  simp only [Cert.Dx.inputGradient]
  refine Ideal.mul_congr ?_ ?_
  · refine Fin.sum_fin_congr fun l => Ideal.mul_congr ?_ ?_
    · refine (codes_at m c t _).trans (congrArg _ ?_)
      blk_ext [idx t]
    · blk_point [iblk, V_main_arg2, idx t]
  · exact factor_block m c t _

/-- The reference's run: its three results and its arguments afterwards. -/
theorem run (ρ : Dev nD → PrngReg) : θ_run defs (onTc (τ := τ) (main (F := Ideal))) ⟨m, fun _ => 0, ρ⟩ fun r => ∀ c : Dev nD,
    r.2.mem ((c : Thread nD τ).loc main_v21_1) = Cert.Dx.inputGradient (m ((c : Thread nD τ).loc main_arg0))
        (Ideal.pow (2 : ℝ) (-expo m c)) (Ideal.pow (2 : ℝ) (expo m c)) (m ((c : Thread nD τ).loc main_arg2)) (m ((c : Thread nD τ).loc main_arg3))
    ∧ r.2.mem ((c : Thread nD τ).loc main_v21_0) = Cert.Dx.codes (m ((c : Thread nD τ).loc main_arg0)) (Ideal.pow (2 : ℝ) (-expo m c))
    ∧ r.2.mem ((c : Thread nD τ).loc main_v12) = Cert.Dx.scale (Ideal.pow (2 : ℝ) (expo m c))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun r h c => ⟨(post5 m r h c).trans (final_dx m c), (post4 m r h c).trans (final_codes m c),
      ((h c).2 main_v12 (Pipeline.mem_restRefs_of main_v12 (by decide) (by decide))).trans ((V_scale m c).trans (by
        funext i
        pointwise [Cert.Dx.scale]
        rw [expo_apply, Cert.Scale.ofBits_two])),
      kept_main_arg0 m r h c, kept_main_arg1 m r h c, kept_main_arg2 m r h c, kept_main_arg3 m r h c⟩)
    (run_main m ρ)

end Cert.DxRefIdeal.Hand
-- ==== Proof.DxValues.lean ====
module

public import proofs.«01_k».proof.Defs
public import proofs.«01_k».proof.Proof.DxKernel
public import proofs.«01_k».proof.Proof.DxReference
public import proofs.«01_k».proof.Proof.Gen.Pre_dh_scale_is_normal
public import Idealize.ShloMosaic.Lib.Pipeline.ValueKit
public import Idealize.ShloMosaic.Lib.Pointwise
public import Idealize.ShloMosaic.Lib.Claim
public import Idealize.ShloMosaic.Lib.Tactic.CleanTypes
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

/-! # dX: from equal arguments the kernel and the reference end with equal results -/

namespace Cert.Dx

/-- The precondition puts the largest magnitude in range. -/
theorem inRange [hP : Cert.Pre_dh_scale_is_normal.Facts] (dh : FVec Ideal Cert.Pre_dh_scale_is_normal.S2x3840x18944 .bf16) (a : FVec Ideal Cert.Pre_dh_scale_is_normal.S8x128 .f32)
    (w : FVec Ideal Cert.Pre_dh_scale_is_normal.S3584x37888 .fp8e4m3) (sw : FVec Ideal Cert.Pre_dh_scale_is_normal.S_ .f32)
    (h : Cert.Pre_dh_scale_is_normal.fn (F := Ideal) dh a w sw = fun _ => 1#1) :
    Cert.Scale.InRange (Cert.Scale.largest a) (Cert.Scale.largest a * Cert.Scale.unit) := by
  have h0 := congrFun h ix0
  apply Cert.Scale.inRange_of_pre
  rw [← h0]
  pointwise [Cert.Pre_dh_scale_is_normal.fn, Cert.Scale.largest]

/-- Where the largest magnitude is in range, the kernel's scales are the reference's. -/
theorem algebraic [hK : Cert.DxIdeal.Facts] [hR : Cert.DxRefIdeal.Facts] [hP : Cert.Pre_dh_scale_is_normal.Facts] :
    algebraic_DxIdeal_DxRefIdeal_pre_dh_scale_is_normal := fun m ρ m' ρ' hpre hag =>
  have hs := fun c => Cert.Scale.scale_eq _ _ (inRange _ _ _ _ (hpre c))
  ⟨_, _, _,
    (θ_run Cert.DxIdeal.defs _ _).mono (fun r h c => ⟨(h c).1.trans (Cert.DxIdeal.Hand.final_dx m c),
      (h c).2.1.trans (Cert.DxIdeal.Hand.final_codes m c), (h c).2.2.1.trans (Cert.DxIdeal.Hand.final_scale m c), (h c).2.2.2⟩)
      (Cert.DxIdeal.Value.run_blocks m ρ),
    (θ_run Cert.DxRefIdeal.defs _ _).mono (fun r h c => ⟨(h c).1.trans (by
        rw [(hs c).1, (hs c).2, Cert.DxRefIdeal.Hand.expo, (hag c).1, (hag c).2.1, (hag c).2.2.1, (hag c).2.2.2]),
      (h c).2.1.trans (by rw [(hs c).2, Cert.DxRefIdeal.Hand.expo, (hag c).1, (hag c).2.1]),
      (h c).2.2.1.trans (by rw [(hs c).1, Cert.DxRefIdeal.Hand.expo, (hag c).2.1]), (h c).2.2.2⟩)
      (Cert.DxRefIdeal.Hand.run m' ρ')⟩

end Cert.Dx
-- ==== Proof.DhMath.lean ====
module

public import proofs.«01_k».proof.Proof.PowerOfTwoScale
public import Idealize.ShloMosaic.Lib.Pipeline.ValueKit
public import Idealize.ShloMosaic.Lib.Pointwise
public import Idealize.ShloMosaic.Lib.Claim
public import Idealize.ShloMosaic.Lib.Tactic.CleanTypes
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

/-! # dH: the functions both programs compute -/

namespace Cert.Dh

/-- The logistic function. -/
def sigmoid (g : EReal) : EReal := Ideal.div 1 (1 + Ideal.exp (-g))

/-- The gradient of the gate: `dA · u · σ(g) · (1 + g (1 - σ(g)))`. -/
def gateGrad (da g u : EReal) : EReal := da * u * sigmoid g * (1 + g * (1 - sigmoid g))

/-- The gradient of the other factor: `dA · g · σ(g)`. -/
def upGrad (da g : EReal) : EReal := da * g * sigmoid g

/-- The larger magnitude of two numbers. -/
def magnitude (x y : EReal) : EReal := max (max x (-x)) (max y (-y))

/-- The product of the two scales. -/
def factor (s sw : FVec Ideal ⟨0, ![]⟩ .f32) : EReal := (s ix0 : EReal) * (sw ix0 : EReal)

/-- The gradient of the activation at token `t` and feature `f`: `Σ_k dy[t, k] · W2[f, k]` times the two scales. -/
def da (dy : FVec Ideal ⟨2, ![3840, 3584]⟩ .fp8e5m2) (w : FVec Ideal ⟨2, ![18944, 3584]⟩ .fp8e4m3)
    (s sw : FVec Ideal ⟨0, ![]⟩ .f32) (t : Fin 3840) (f : Fin 18944) : EReal :=
  (∑ k : Fin 3584, (dy (ix2 t k) : EReal) * (w (ix2 f k) : EReal)) * factor s sw

/-- Column `f` of the gate's half of the hidden layer at token `t`. -/
def gate (gu : FVec Ideal ⟨3, ![3, 1280, 37888]⟩ .bf16) (t : Fin 3840) (f : Fin 18944) : EReal :=
  gu (ix3 ⟨(t : ℕ) / 1280, by omega⟩ ⟨(t : ℕ) % 1280, by omega⟩ ⟨(f : ℕ), by omega⟩)

/-- Column `f` of the other half of the hidden layer at token `t`. -/
def up (gu : FVec Ideal ⟨3, ![3, 1280, 37888]⟩ .bf16) (t : Fin 3840) (f : Fin 18944) : EReal :=
  gu (ix3 ⟨(t : ℕ) / 1280, by omega⟩ ⟨(t : ℕ) % 1280, by omega⟩ ⟨18944 + (f : ℕ), by omega⟩)

/-- dH: the two gradients, one after the other. -/
def hidden (dy : FVec Ideal ⟨2, ![3840, 3584]⟩ .fp8e5m2) (w : FVec Ideal ⟨2, ![18944, 3584]⟩ .fp8e4m3)
    (gu : FVec Ideal ⟨3, ![3, 1280, 37888]⟩ .bf16) (s sw : FVec Ideal ⟨0, ![]⟩ .f32) : FVec Ideal ⟨3, ![2, 3840, 18944]⟩ .bf16 :=
  fun i => if (i 0 : ℕ) = 0 then gateGrad (da dy w s sw (i 1) (i 2)) (gate gu (i 1) (i 2)) (up gu (i 1) (i 2))
    else upGrad (da dy w s sw (i 1) (i 2)) (gate gu (i 1) (i 2))

/-- The larger magnitude of the two gradients at token `t` and feature `f`. -/
def mag (dy : FVec Ideal ⟨2, ![3840, 3584]⟩ .fp8e5m2) (w : FVec Ideal ⟨2, ![18944, 3584]⟩ .fp8e4m3)
    (gu : FVec Ideal ⟨3, ![3, 1280, 37888]⟩ .bf16) (s sw : FVec Ideal ⟨0, ![]⟩ .f32) (t : Fin 3840) (f : Fin 18944) : EReal :=
  magnitude (gateGrad (da dy w s sw t f) (gate gu t f) (up gu t f)) (upGrad (da dy w s sw t f) (gate gu t f))

/-- `a` is an array of partial maxima: element `(i, j)` is the largest magnitude over the tokens congruent to `i` modulo 8
    and the features congruent to `j` modulo 128. -/
def IsAmax (dy : FVec Ideal ⟨2, ![3840, 3584]⟩ .fp8e5m2) (w : FVec Ideal ⟨2, ![18944, 3584]⟩ .fp8e4m3)
    (gu : FVec Ideal ⟨3, ![3, 1280, 37888]⟩ .bf16) (s sw : FVec Ideal ⟨0, ![]⟩ .f32) (a : FVec Ideal ⟨2, ![8, 128]⟩ .f32) : Prop :=
  ∀ (i : (⟨2, ![8, 128]⟩ : Shape).Idx) (b : EReal), (a i : EReal) ≤ b ↔
    ∀ (t : Fin 3840) (f : Fin 18944), (t : ℕ) % 8 = i 0 → (f : ℕ) % 128 = i 1 → mag dy w gu s sw t f ≤ b

/-- The partial maxima are determined by that. -/
theorem IsAmax.unique {dy w gu s sw a a'} (h : IsAmax dy w gu s sw a) (h' : IsAmax dy w gu s sw a') : a = a' := by
  funext i
  exact eq_of_forall_ge_iff fun b => (h i b).trans (h' i b).symm

/-- A magnitude is not negative. -/
theorem mag_nonneg (dy w gu s sw t f) : 0 ≤ mag dy w gu s sw t f := by
  unfold mag magnitude
  generalize gateGrad _ _ _ = x
  refine le_max_of_le_left ?_
  rcases le_total 0 x with h | h
  · exact le_max_of_le_left h
  · exact le_max_of_le_right (EReal.neg_nonneg.mpr h)

end Cert.Dh
-- ==== Proof.DhKernel.lean ====
module

public import proofs.«01_k».proof.Proof.DhMath
public import proofs.«01_k».proof.Proof.Gen.DhIdeal.Value
public import Idealize.ShloMosaic.Lib.Pipeline.ValueKit
public import Idealize.ShloMosaic.Lib.Pointwise
public import Idealize.ShloMosaic.Lib.Claim
public import Idealize.ShloMosaic.Lib.Tactic.CleanTypes
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! # dH: what the kernel's result arrays hold -/

namespace Cert.DhIdeal.Hand

open Cert.DhIdeal Cert.DhIdeal.Gen Cert.DhIdeal.Value

/-- A block of the activation's gradient at one element. -/
abbrev daB (v5 : FVec Ideal S768x3584 .fp8e5m2) (v6 : FVec Ideal S512x3584 .fp8e4m3) (s : EReal) (i : S768x512.Idx) : EReal :=
  (∑ k : Fin 3584, (v5 (ix2 (i 0) k) : EReal) * (v6 (ix2 (i 1) k) : EReal)) * s

theorem da_apply (v5 : FVec Ideal S768x3584 .fp8e5m2) (v6 : FVec Ideal S512x3584 .fp8e4m3) (s : EReal) (i : S768x512.Idx) :
    k0_pay4 (F := Ideal) v5 v6 s i = daB v5 v6 s i := by
  pointwise [k0_pay4]

theorem sigmoid_apply (g : FVec Ideal S768x512 .bf16) (i : S768x512.Idx) :
    k0_pay6 (F := Ideal) g i = Cert.Dh.sigmoid (g i) := by
  pointwise [k0_pay6, k0_pay5]
  rw [zero_sub]
  rfl

theorem gate_apply (v5 : FVec Ideal S768x3584 .fp8e5m2) (v6 : FVec Ideal S512x3584 .fp8e4m3) (s : EReal)
    (g u : FVec Ideal S768x512 .bf16) (i : S768x512.Idx) :
    k0_pay7 (F := Ideal) v5 v6 s g u i = Cert.Dh.gateGrad (daB v5 v6 s i) (g i) (u i) := by
  pointwise [k0_pay7, k0_pay5]
  rw [da_apply, sigmoid_apply]
  rfl

theorem up_apply (v5 : FVec Ideal S768x3584 .fp8e5m2) (v6 : FVec Ideal S512x3584 .fp8e4m3) (s : EReal)
    (g : FVec Ideal S768x512 .bf16) (i : S768x512.Idx) :
    k0_pay8 (F := Ideal) v5 v6 s g i = Cert.Dh.upGrad (daB v5 v6 s i) (g i) := by
  pointwise [k0_pay8, k0_pay5]
  rw [da_apply, sigmoid_apply]
  rfl

/-- A number differs from itself nowhere, so that the other value is never selected. -/
theorem select_never (x p q : EReal) (b : BitVec 1) :
    Scalar.select (IntOp.andi (BitVec.ofBool (decide (x ≠ x))) b) p q = q := by
  simp [Scalar.select, IntOp.andi]

/-- Rounding to odd changes nothing over the reals: the truncated value is the value. -/
theorem round_gate (v p : FVec Ideal S768x512 .f32) (i : S1x768x512.Idx) :
    k0_pay11 (F := Ideal) v v p i = v (ix2 (i 1) (i 2)) := by
  pointwise [k0_pay11]
  exact select_never _ _ _ _

theorem round_up (v p q r : FVec Ideal S768x512 .f32) (i : S1x768x512.Idx) :
    k0_pay1 (F := Ideal) v v p q r i = v (ix2 (i 1) (i 2)) := by
  pointwise [k0_pay1]
  exact select_never _ _ _ _

/-- The fold of a block into the partial maxima: the rows congruent modulo 8 and the lanes congruent modulo 128. -/
theorem fold_apply (v w : FVec Ideal S768x512 .f32) (acc : FVec Ideal S8x128 .f32) (i : S8x128.Idx) (b : EReal) :
    (k0_pay2 v w acc i : EReal) ≤ b ↔ (acc i : EReal) ≤ b ∧ ∀ j : S768x512.Idx, (j 0 : ℕ) % 8 = i 0 → (j 1 : ℕ) % 128 = i 1 →
      Cert.Dh.magnitude (v j) (w j) ≤ b := by
  have key : (k0_pay2 v w acc i : EReal) ≤ b ↔ (acc i : EReal) ≤ b ∧ ∀ (r : Fin 96) (l : Fin 4),
      Cert.Dh.magnitude
        (v (ix2 ⟨r * 8 + i 0, by have : (i 0 : ℕ) < 8 := (i 0).isLt; omega⟩ ⟨128 * l + i 1, by have : (i 1 : ℕ) < 128 := (i 1).isLt; omega⟩))
        (w (ix2 ⟨r * 8 + i 0, by have : (i 0 : ℕ) < 8 := (i 0).isLt; omega⟩ ⟨128 * l + i 1, by have : (i 1 : ℕ) < 128 := (i 1).isLt; omega⟩))
        ≤ b := by
    pointwise [k0_pay2]
    have e : ∀ x y : EReal, max (FloatOps.absf (F := Ideal) (φ := .f32) x) (FloatOps.absf (F := Ideal) (φ := .f32) y) = Cert.Dh.magnitude x y :=
      fun _ _ => rfl
    have hb : Ideal.ofBits .f32 4286578688#32 ≤ b := by
      have : Ideal.ofBits .f32 4286578688#32 = ⊥ := by simp [Ideal.ofBits, Ideal.ieee]
      rw [this]; exact bot_le
    simp only [max_le_iff, Finset.fold_max_le, Finset.mem_univ, true_implies, e, hb, true_and]
    constructor
    · rintro ⟨h, ⟨⟨h0, h1⟩, h2⟩, h3⟩
      exact ⟨h, fun r => ⟨h0 r, h1 r, h2 r, h3 r⟩⟩
    · rintro ⟨h, H⟩
      exact ⟨h, ⟨⟨fun r => (H r).1, fun r => (H r).2.1⟩, fun r => (H r).2.2.1⟩, fun r => (H r).2.2.2⟩
  rw [key]
  refine and_congr_right fun _ => ⟨fun H j h0 h1 => ?_, fun H r l => ?_⟩
  · have b0 : (j 0 : ℕ) < 768 := (j 0).isLt
    have b1 : (j 1 : ℕ) < 512 := (j 1).isLt
    have h := H ⟨(j 0 : ℕ) / 8, by omega⟩ ⟨(j 1 : ℕ) / 128, by omega⟩
    have hj : j = ix2 ⟨(j 0 : ℕ) / 8 * 8 + i 0, by omega⟩ ⟨128 * ((j 1 : ℕ) / 128) + i 1, by omega⟩ := by
      funext k
      fin_cases k
      · exact Fin.ext (by show (j 0 : ℕ) = (j 0 : ℕ) / 8 * 8 + i 0; omega)
      · exact Fin.ext (by show (j 1 : ℕ) = 128 * ((j 1 : ℕ) / 128) + i 1; omega)
    rw [hj]
    exact h
  · have b0 : (i 0 : ℕ) < 8 := (i 0).isLt
    have b1 : (i 1 : ℕ) < 128 := (i 1).isLt
    exact H (ix2 ⟨r * 8 + i 0, by omega⟩ ⟨128 * l + i 1, by omega⟩)
      (by show ((r : ℕ) * 8 + i 0) % 8 = i 0; omega) (by show (128 * (l : ℕ) + i 1) % 128 = i 1; omega)

variable (m : (ℓ : Loc nD τ sig) → Buf (Elt Ideal) ℓ)

/-- Which blocks the windows hold at a grid point. -/
theorem idx : ∀ t : Fin cfg0.N,
    win0_0.index t = ![0] ∧
    win0_1.index t = ![t.val % 5, 0] ∧
    win0_2.index t = ![t.val / 5, 0] ∧
    win0_3.index t = ![t.val % 5, t.val / 5] ∧
    win0_4.index t = ![t.val % 5, 37 + t.val / 5] ∧
    win0_5.index t = ![0, t.val % 5, t.val / 5] ∧
    win0_6.index t = ![0, 0] :=
  (by decide +kernel : ∀ t : Fin grid0.N, _)

/-- The product of the two scales, which every point reads. -/
abbrev factor (c : Dev nD) : EReal := Cert.Dh.factor (m ((c : Thread nD τ).loc main_arg3)) (m ((c : Thread nD τ).loc main_arg4))

theorem factor_read (c : Dev nD) (t : Fin cfg0.N) : (iblk m c 0 t : FVec Ideal S1 .f32) (ix1 0) = factor m c := by
  simp only [Cert.Dh.factor]
  blk_point [iblk, V, idx t]

theorem da_at (c : Dev nD) (t : Fin cfg0.N) (s : EReal) (hs : s = factor m c) (i : S768x512.Idx) (tt : Fin 3840) (ff : Fin 18944)
    (ht : (tt : ℕ) = 768 * (t.val % 5) + i 0) (hf : (ff : ℕ) = 512 * (t.val / 5) + i 1) :
    daB (iblk m c 1 t) (iblk m c 2 t) s i = Cert.Dh.da (m ((c : Thread nD τ).loc main_arg0)) (m ((c : Thread nD τ).loc main_arg1))
      (m ((c : Thread nD τ).loc main_arg3)) (m ((c : Thread nD τ).loc main_arg4)) tt ff := by
  simp only [daB, Cert.Dh.da]
  refine Ideal.mul_congr ?_ hs
  refine Fin.sum_fin_congr fun k => Ideal.mul_congr ?_ ?_
  · blk_point [iblk, V, idx t]
  · blk_point [iblk, V, idx t]

theorem g_at (c : Dev nD) (t : Fin cfg0.N) (i : S768x512.Idx) (tt : Fin 3840) (ff : Fin 18944)
    (ht : (tt : ℕ) = 768 * (t.val % 5) + i 0) (hf : (ff : ℕ) = 512 * (t.val / 5) + i 1) :
    iblk m c 3 t i = Cert.Dh.gate (m ((c : Thread nD τ).loc main_arg2)) tt ff := by
  simp only [Cert.Dh.gate]
  blk_point [iblk, V, idx t]

theorem u_at (c : Dev nD) (t : Fin cfg0.N) (i : S768x512.Idx) (tt : Fin 3840) (ff : Fin 18944)
    (ht : (tt : ℕ) = 768 * (t.val % 5) + i 0) (hf : (ff : ℕ) = 512 * (t.val / 5) + i 1) :
    iblk m c 4 t i = Cert.Dh.up (m ((c : Thread nD τ).loc main_arg2)) tt ff := by
  simp only [Cert.Dh.up]
  blk_point [iblk, V, idx t]

/-- The magnitude at one token and one feature. -/
abbrev mag (c : Dev nD) (tt : Fin 3840) (ff : Fin 18944) : EReal :=
  Cert.Dh.mag (m ((c : Thread nD τ).loc main_arg0)) (m ((c : Thread nD τ).loc main_arg1)) (m ((c : Thread nD τ).loc main_arg2))
    (m ((c : Thread nD τ).loc main_arg3)) (m ((c : Thread nD τ).loc main_arg4)) tt ff

/-- One entry of the gate's gradient in a point's block. -/
theorem gate_at (c : Dev nD) (t : Fin cfg0.N) (s : EReal) (hs : s = factor m c) (i : S768x512.Idx) (tt : Fin 3840) (ff : Fin 18944)
    (ht : (tt : ℕ) = 768 * (t.val % 5) + i 0) (hf : (ff : ℕ) = 512 * (t.val / 5) + i 1) :
    k0_pay7 (F := Ideal) (iblk m c 1 t) (iblk m c 2 t) s (iblk m c 3 t) (iblk m c 4 t) i
      = Cert.Dh.gateGrad (Cert.Dh.da (m ((c : Thread nD τ).loc main_arg0)) (m ((c : Thread nD τ).loc main_arg1))
          (m ((c : Thread nD τ).loc main_arg3)) (m ((c : Thread nD τ).loc main_arg4)) tt ff)
          (Cert.Dh.gate (m ((c : Thread nD τ).loc main_arg2)) tt ff) (Cert.Dh.up (m ((c : Thread nD τ).loc main_arg2)) tt ff) := by
  rw [gate_apply, da_at m c t s hs i tt ff ht hf, g_at m c t i tt ff ht hf, u_at m c t i tt ff ht hf]

/-- One entry of the other gradient in a point's block. -/
theorem up_at (c : Dev nD) (t : Fin cfg0.N) (s : EReal) (hs : s = factor m c) (i : S768x512.Idx) (tt : Fin 3840) (ff : Fin 18944)
    (ht : (tt : ℕ) = 768 * (t.val % 5) + i 0) (hf : (ff : ℕ) = 512 * (t.val / 5) + i 1) :
    k0_pay8 (F := Ideal) (iblk m c 1 t) (iblk m c 2 t) s (iblk m c 3 t) i
      = Cert.Dh.upGrad (Cert.Dh.da (m ((c : Thread nD τ).loc main_arg0)) (m ((c : Thread nD τ).loc main_arg1))
          (m ((c : Thread nD τ).loc main_arg3)) (m ((c : Thread nD τ).loc main_arg4)) tt ff)
          (Cert.Dh.gate (m ((c : Thread nD τ).loc main_arg2)) tt ff) := by
  rw [up_apply, da_at m c t s hs i tt ff ht hf, g_at m c t i tt ff ht hf]

/-- What a point leaves in the block of dH. -/
theorem hidden_out (c : Dev nD) (t : Fin cfg0.N) (y : S2x768x512.Idx) (z : S2x3840x18944.Idx) (e0 : (z 0 : ℕ) = y 0)
    (e1 : (z 1 : ℕ) = 768 * (t.val % 5) + y 1) (e2 : (z 2 : ℕ) = 512 * (t.val / 5) + y 2) :
    (outsAt0 m c t.val t.isLt).1 y = Cert.Dh.hidden (m ((c : Thread nD τ).loc main_arg0)) (m ((c : Thread nD τ).loc main_arg1))
      (m ((c : Thread nD τ).loc main_arg2)) (m ((c : Thread nD τ).loc main_arg3)) (m ((c : Thread nD τ).loc main_arg4)) z := by
  by_cases c0 : t.val % 185 = 0
  · rw [outsAt0_A m c t c0]; frame_out
    canon_tiles x h
    · refine (round_up _ _ _ _ x).trans ((up_at m c t _ ?_ _ (z 1) (z 2) ?_ ?_).trans ?_)
      · pointwise; exact factor_read m c t
      · rw [e1, h1]; rfl
      · rw [e2, h2]; rfl
      · unfold Cert.Dh.hidden; rw [if_neg (by omega)]
    · refine (round_gate _ _ x).trans ((gate_at m c t _ ?_ _ (z 1) (z 2) ?_ ?_).trans ?_)
      · pointwise; exact factor_read m c t
      · rw [e1, h1]; rfl
      · rw [e2, h2]; rfl
      · unfold Cert.Dh.hidden; rw [if_pos (by omega)]
  · rw [outsAt0_B m c t c0]; frame_out
    canon_tiles x h
    · refine (round_up _ _ _ _ x).trans ((up_at m c t _ ?_ _ (z 1) (z 2) ?_ ?_).trans ?_)
      · pointwise; exact factor_read m c t
      · rw [e1, h1]; rfl
      · rw [e2, h2]; rfl
      · unfold Cert.Dh.hidden; rw [if_neg (by omega)]
    · refine (round_gate _ _ x).trans ((gate_at m c t _ ?_ _ (z 1) (z 2) ?_ ?_).trans ?_)
      · pointwise; exact factor_read m c t
      · rw [e1, h1]; rfl
      · rw [e2, h2]; rfl
      · unfold Cert.Dh.hidden; rw [if_pos (by omega)]

/-- dH. -/
theorem final_hidden (c : Dev nD) : (dats m 0 c).arrAt 5 cfg0.N = Cert.Dh.hidden (m ((c : Thread nD τ).loc main_arg0))
    (m ((c : Thread nD τ).loc main_arg1)) (m ((c : Thread nD τ).loc main_arg2)) (m ((c : Thread nD τ).loc main_arg3))
    (m ((c : Thread nD τ).loc main_arg4)) := by
  refine (dats m 0 c).arrAt_eq_of_covers 5 _ (by decide +kernel) fun t _ y => ?_
  rw [after0_5]
  refine hidden_out m c t y _ ?_ ?_ ?_
  all_goals (blk_simp [idx t] <;> try omega)

/-- The partial maxima written at a point are those carried on. -/
theorem amax_out (c : Dev nD) (t : Fin cfg0.N) :
    (outsAt0 m c t.val t.isLt).2.1 = (outsAt0 m c t.val t.isLt).2.2 := by
  by_cases h0 : t.val % 185 = 0
  · rw [outsAt0_A m c t h0]; frame_out
  · rw [outsAt0_B m c t h0]; frame_out

/-- What a point folds into the partial maxima: the tokens and the features of its block. -/
theorem block_le (c : Dev nD) (t : Fin cfg0.N) (s : EReal) (hs : s = factor m c) (acc : FVec Ideal S8x128 .f32) (i : S8x128.Idx) (b : EReal) :
    (k0_pay2 (k0_pay7 (F := Ideal) (iblk m c 1 t) (iblk m c 2 t) s (iblk m c 3 t) (iblk m c 4 t))
        (k0_pay8 (F := Ideal) (iblk m c 1 t) (iblk m c 2 t) s (iblk m c 3 t)) acc i : EReal) ≤ b
      ↔ (acc i : EReal) ≤ b ∧ ∀ (tt : Fin 3840) (ff : Fin 18944), (tt : ℕ) / 768 + 5 * ((ff : ℕ) / 512) = t.val →
        (tt : ℕ) % 8 = i 0 → (ff : ℕ) % 128 = i 1 → mag m c tt ff ≤ b := by
  have hN : t.val < 185 := t.isLt
  rw [fold_apply]
  refine and_congr_right fun _ => ⟨fun H tt ff hp h0 h1 => ?_, fun H j h0 h1 => ?_⟩
  · have h := H (ix2 ⟨(tt : ℕ) % 768, by omega⟩ ⟨(ff : ℕ) % 512, by omega⟩)
      (by show (tt : ℕ) % 768 % 8 = i 0; omega) (by show (ff : ℕ) % 512 % 128 = i 1; omega)
    rw [gate_at m c t s hs _ tt ff (by show (tt : ℕ) = 768 * (t.val % 5) + (tt : ℕ) % 768; omega)
        (by show (ff : ℕ) = 512 * (t.val / 5) + (ff : ℕ) % 512; omega),
      up_at m c t s hs _ tt ff (by show (tt : ℕ) = 768 * (t.val % 5) + (tt : ℕ) % 768; omega)
        (by show (ff : ℕ) = 512 * (t.val / 5) + (ff : ℕ) % 512; omega)] at h
    exact h
  · have b0 : (j 0 : ℕ) < 768 := (j 0).isLt
    have b1 : (j 1 : ℕ) < 512 := (j 1).isLt
    have h := H ⟨768 * (t.val % 5) + j 0, by omega⟩ ⟨512 * (t.val / 5) + j 1, by omega⟩
      (by show (768 * (t.val % 5) + j 0) / 768 + 5 * ((512 * (t.val / 5) + j 1) / 512) = t.val; omega)
      (by show (768 * (t.val % 5) + j 0) % 8 = i 0; omega) (by show (512 * (t.val / 5) + j 1) % 128 = i 1; omega)
    rw [gate_at m c t s hs j ⟨768 * (t.val % 5) + j 0, by omega⟩ ⟨512 * (t.val / 5) + j 1, by omega⟩ rfl rfl,
      up_at m c t s hs j ⟨768 * (t.val % 5) + j 0, by omega⟩ ⟨512 * (t.val / 5) + j 1, by omega⟩ rfl rfl]
    exact h

theorem zero_apply (i : S8x128.Idx) : (k0_pay3 (F := Ideal) i : EReal) = 0 := by
  pointwise [k0_pay3]

/-- The partial maxima after a point: the largest magnitudes of all points so far, and zero. -/
theorem scratch_le (c : Dev nD) : ∀ (n : ℕ) (hn : n < cfg0.N) (i : S8x128.Idx) (b : EReal),
    ((outsAt0 m c n hn).2.2 i : EReal) ≤ b ↔ 0 ≤ b ∧ ∀ (tt : Fin 3840) (ff : Fin 18944), (tt : ℕ) / 768 + 5 * ((ff : ℕ) / 512) ≤ n →
      (tt : ℕ) % 8 = i 0 → (ff : ℕ) % 128 = i 1 → mag m c tt ff ≤ b := by
  intro n
  induction n with
  | zero =>
    intro hn i b
    rw [outsAt0_A m c ⟨0, hn⟩ rfl]
    frame_out
    refine (block_le m c ⟨0, hn⟩ _ ?_ _ i b).trans ?_
    · pointwise; exact factor_read m c _
    · rw [zero_apply]
      simp only [Nat.le_zero]
  | succ n ih =>
    intro hn i b
    have hN : n + 1 < 185 := hn
    rw [outsAt0_B m c ⟨n + 1, hn⟩ (by show ¬(n + 1) % 185 = 0; omega)]
    frame_out
    refine (block_le m c ⟨n + 1, hn⟩ _ ?_ _ i b).trans ?_
    · pointwise; exact factor_read m c _
    · rw [read_unread_whole]
      refine (and_congr_left' (ih (Nat.lt_of_succ_lt hn) i b)).trans ?_
      constructor
      · rintro ⟨⟨h, H⟩, K⟩
        refine ⟨h, fun tt ff hp h0 h1 => ?_⟩
        rcases Nat.lt_or_ge n ((tt : ℕ) / 768 + 5 * ((ff : ℕ) / 512)) with hlt | hge
        · exact K tt ff (le_antisymm hp hlt) h0 h1
        · exact H tt ff hge h0 h1
      · rintro ⟨h, H⟩
        exact ⟨⟨h, fun tt ff hp => H tt ff (Nat.le_succ_of_le hp)⟩, fun tt ff hp => H tt ff (le_of_eq hp)⟩

end Cert.DhIdeal.Hand
-- ==== Proof.DhAmax.lean ====
module

public import proofs.«01_k».proof.Proof.DhKernel
public import proofs.«01_k».proof.Proof.Gen.DhIdeal.Value
public import Idealize.ShloMosaic.Lib.Pipeline.ValueKit
public import Idealize.ShloMosaic.Lib.Pointwise
public import Idealize.ShloMosaic.Lib.Claim
public import Idealize.ShloMosaic.Lib.Tactic.CleanTypes
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! # dH: the kernel's partial maxima -/

namespace Cert.DhIdeal.Hand

open Cert.DhIdeal Cert.DhIdeal.Gen Cert.DhIdeal.Value

variable (m : (ℓ : Loc nD τ sig) → Buf (Elt Ideal) ℓ)

/-- After the last point the carried array is an array of partial maxima. -/
theorem scratch_isAmax (c : Dev nD) (n : ℕ) (hn : n < cfg0.N) (hl : 184 ≤ n) :
    Cert.Dh.IsAmax (m ((c : Thread nD τ).loc main_arg0)) (m ((c : Thread nD τ).loc main_arg1))
      (m ((c : Thread nD τ).loc main_arg2)) (m ((c : Thread nD τ).loc main_arg3)) (m ((c : Thread nD τ).loc main_arg4))
      (outsAt0 m c n hn).2.2 := by
  intro i b
  refine (scratch_le m c n hn i b).trans ⟨fun H tt ff h0 h1 => H.2 tt ff (by omega) h0 h1, fun H => ⟨?_, fun tt ff _ => H tt ff⟩⟩
  have b0 : (i 0 : ℕ) < 8 := (i 0).isLt
  have b1 : (i 1 : ℕ) < 128 := (i 1).isLt
  exact (Cert.Dh.mag_nonneg _ _ _ _ _ _ _).trans (H ⟨i 0, by omega⟩ ⟨i 1, by omega⟩ (by show (i 0 : ℕ) % 8 = i 0; omega) (by show (i 1 : ℕ) % 128 = i 1; omega))

/-- What the last point leaves is the result array. -/
theorem last_point (c : Dev nD) (n : ℕ) (hn : n < cfg0.N) (hl : n = 184) : (dats m 0 c).arrAt 6 cfg0.N = (outsAt0 m c n hn).2.2 := by
  refine (dats m 0 c).arrAt_eq_of_covers 6 _ (by decide +kernel) fun t hf y => ?_
  have ht : n = t.val := by
    have h1 := (flush0_6 t).mp hf
    have h2 : t.val < 185 := t.isLt
    omega
  rw [after0_6, amax_out]
  subst ht
  generalize (outsAt0 m c t.val t.isLt).2.2 = A
  blk_point [idx t]

/-- The array of partial maxima. -/
theorem final_amax (c : Dev nD) : Cert.Dh.IsAmax (m ((c : Thread nD τ).loc main_arg0)) (m ((c : Thread nD τ).loc main_arg1))
    (m ((c : Thread nD τ).loc main_arg2)) (m ((c : Thread nD τ).loc main_arg3)) (m ((c : Thread nD τ).loc main_arg4))
    ((dats m 0 c).arrAt 6 cfg0.N) := by
  obtain ⟨n, hl⟩ : ∃ n : ℕ, n = 184 := ⟨_, rfl⟩
  have hn : n < cfg0.N := lt_of_lt_of_eq (by omega : n < 185) N_0.symm
  rw [last_point m c n hn hl]
  exact scratch_isAmax m c n hn (le_of_eq hl.symm)

end Cert.DhIdeal.Hand
-- ==== Proof.DhReference.lean ====
module

public import proofs.«01_k».proof.Proof.DhMath
public import proofs.«01_k».proof.Proof.Gen.DhRefIdeal.Value
public import Idealize.ShloMosaic.Lib.Pipeline.ValueKit
public import Idealize.ShloMosaic.Lib.Pointwise
public import Idealize.ShloMosaic.Lib.Claim
public import Idealize.ShloMosaic.Lib.Tactic.CleanTypes
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

/-! # dH: what the reference's result arrays hold -/

namespace Cert.DhRefIdeal.Hand

open Cert.DhRefIdeal Cert.DhRefIdeal.Gen Cert.DhRefIdeal.Value

/-- The whole activation gradient at one element. -/
abbrev daW (v0 : FVec Ideal S3840x3584 .fp8e5m2) (v1 : FVec Ideal S18944x3584 .fp8e4m3) (s : FVec Ideal S1x1 .f32) (i : S3840x18944.Idx) : EReal :=
  (∑ k : Fin 3584, (v0 (ix2 (i 0) k) : EReal) * (v1 (ix2 (i 1) k) : EReal)) * (s (ix2 0 0) : EReal)

theorem da_apply (v0 : FVec Ideal S3840x3584 .fp8e5m2) (v1 : FVec Ideal S18944x3584 .fp8e4m3) (s : FVec Ideal S1x1 .f32) (i : S3840x18944.Idx) :
    k0_pay2 (F := Ideal) v0 v1 s i = daW v0 v1 s i := by
  pointwise [k0_pay2]

theorem sigmoid_apply (g : FVec Ideal S3840x18944 .bf16) (i : S3840x18944.Idx) :
    k0_pay4 (F := Ideal) g i = Cert.Dh.sigmoid (g i) := by
  pointwise [k0_pay4, k0_pay3]
  rfl

theorem gate_apply (v0 : FVec Ideal S3840x3584 .fp8e5m2) (v1 : FVec Ideal S18944x3584 .fp8e4m3) (s : FVec Ideal S1x1 .f32)
    (g u : FVec Ideal S3840x18944 .bf16) (i : S3840x18944.Idx) :
    k0_pay5 (F := Ideal) v0 v1 s g u i = Cert.Dh.gateGrad (daW v0 v1 s i) (g i) (u i) := by
  pointwise [k0_pay5, k0_pay3]
  rw [da_apply, sigmoid_apply]
  rfl

theorem up_apply (v0 : FVec Ideal S3840x3584 .fp8e5m2) (v1 : FVec Ideal S18944x3584 .fp8e4m3) (s : FVec Ideal S1x1 .f32)
    (g : FVec Ideal S3840x18944 .bf16) (i : S3840x18944.Idx) :
    k0_pay6 (F := Ideal) v0 v1 s g i = Cert.Dh.upGrad (daW v0 v1 s i) (g i) := by
  pointwise [k0_pay6, k0_pay3]
  rw [da_apply, sigmoid_apply]
  rfl

/-- The two maxima over the tokens congruent modulo 8 and the features congruent modulo 128. -/
theorem fold_apply (v0 : FVec Ideal S3840x3584 .fp8e5m2) (v1 : FVec Ideal S18944x3584 .fp8e4m3) (s : FVec Ideal S1x1 .f32)
    (g u : FVec Ideal S3840x18944 .bf16) (i : S8x128.Idx) (b : EReal) :
    (k0_pay1 (k0_pay9 (F := Ideal) v0 v1 s g u) i : EReal) ≤ b ↔ ∀ (t : Fin 3840) (f : Fin 18944), (t : ℕ) % 8 = i 0 → (f : ℕ) % 128 = i 1 →
      Cert.Dh.magnitude (k0_pay5 (F := Ideal) v0 v1 s g u (ix2 t f)) (k0_pay6 (F := Ideal) v0 v1 s g (ix2 t f)) ≤ b := by
  generalize hv : k0_pay5 (F := Ideal) v0 v1 s g u = v
  generalize hw : k0_pay6 (F := Ideal) v0 v1 s g = w
  pointwise [k0_pay1, k0_pay9, hv, hw]
  have e : ∀ x y : EReal, max (FloatOps.absf (F := Ideal) (φ := .f32) x) (FloatOps.absf (F := Ideal) (φ := .f32) y) = Cert.Dh.magnitude x y :=
    fun _ _ => rfl
  have hb : Ideal.ofBits .f32 4286578688#32 ≤ b := by
    have : Ideal.ofBits .f32 4286578688#32 = ⊥ := by simp [Ideal.ofBits, Ideal.ieee]
    rw [this]; exact bot_le
  have b0 : (i 0 : ℕ) < 8 := (i 0).isLt
  have b1 : (i 1 : ℕ) < 128 := (i 1).isLt
  simp only [Finset.fold_max_le, Finset.mem_univ, true_implies, e, hb, true_and]
  refine ⟨fun H t f h0 h1 => ?_, fun H l r => ?_⟩
  · have h := H ⟨(f : ℕ) / 128, by omega⟩ ⟨(t : ℕ) / 8, by omega⟩
    have ht : t = ⟨(t : ℕ) / 8 * 8 + i 0, by omega⟩ := Fin.ext (by show (t : ℕ) = (t : ℕ) / 8 * 8 + i 0; omega)
    have hf : f = ⟨(f : ℕ) / 128 * 128 + i 1, by omega⟩ := Fin.ext (by show (f : ℕ) = (f : ℕ) / 128 * 128 + i 1; omega)
    rw [ht, hf]
    exact h
  · exact H ⟨r * 8 + i 0, by omega⟩ ⟨l * 128 + i 1, by omega⟩
      (by show ((r : ℕ) * 8 + i 0) % 8 = i 0; omega) (by show ((l : ℕ) * 128 + i 1) % 128 = i 1; omega)

variable (m : (ℓ : Loc nD τ sig) → Buf (Elt Ideal) ℓ)

/-- The reference's one grid point holds the whole arrays. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0, 0] ∧ win0_6.index t = ![0, 0] :=
  (by decide +kernel : ∀ t : Fin grid0.N, _)

/-- The product of the two scales as a 1 × 1 array. -/
abbrev product (a b : FVec Ideal S_ .f32) : FVec Ideal S1x1 .f32 := shapeCast S1x1 (mulf a b) shapeCasts_S_S1x1

theorem product_apply (a b : FVec Ideal S_ .f32) (y : S1x1.Idx) : product a b y = Cert.Dh.factor a b := by
  simp only [Cert.Dh.factor]
  pointwise [product]

theorem V_factor (c : Dev nD) : V m c main_v2 = product (m ((c : Thread nD τ).loc main_arg3)) (m ((c : Thread nD τ).loc main_arg4)) := by
  after_reads_simp
  rfl

theorem V_gate (c : Dev nD) : V m c main_v3 = extractStridedSlice S3840x18944 ![0, 0]
    (shapeCast S3840x37888 (m ((c : Thread nD τ).loc main_arg2) : FVec Ideal S3x1280x37888 .bf16) shapeCasts_S3x1280x37888_S3840x37888)
    slices_S3840x37888_S3840x18944_0_0 := by
  after_reads_simp
  rfl

theorem V_up (c : Dev nD) : V m c main_v4 = extractStridedSlice S3840x18944 ![0, 18944]
    (shapeCast S3840x37888 (m ((c : Thread nD τ).loc main_arg2) : FVec Ideal S3x1280x37888 .bf16) shapeCasts_S3x1280x37888_S3840x37888)
    slices_S3840x37888_S3840x18944_0_18944 := by
  after_reads_simp
  rfl

theorem slice0_apply (gu : FVec Ideal S3x1280x37888 .bf16) (i : S3840x18944.Idx) : extractStridedSlice S3840x18944 ![0, 0]
    (shapeCast S3840x37888 gu shapeCasts_S3x1280x37888_S3840x37888) slices_S3840x37888_S3840x18944_0_0 i = Cert.Dh.gate gu (i 0) (i 1) := by
  simp only [Cert.Dh.gate]
  pointwise
  blk_ext

theorem slice1_apply (gu : FVec Ideal S3x1280x37888 .bf16) (i : S3840x18944.Idx) : extractStridedSlice S3840x18944 ![0, 18944]
    (shapeCast S3840x37888 gu shapeCasts_S3x1280x37888_S3840x37888) slices_S3840x37888_S3840x18944_0_18944 i = Cert.Dh.up gu (i 0) (i 1) := by
  simp only [Cert.Dh.up]
  pointwise
  blk_ext

theorem factor_block (c : Dev nD) (t : Fin cfg0.N) (y : S1x1.Idx) : iblk m c 0 t y
    = Cert.Dh.factor (m ((c : Thread nD τ).loc main_arg3)) (m ((c : Thread nD τ).loc main_arg4)) := by
  have h : iblk m c 0 t y = V m c main_v2 y := by
    unfold iblk
    generalize V m c = W
    blk_point [idx t]
  rw [h, V_factor]
  exact product_apply _ _ y

theorem gate_block (c : Dev nD) (t : Fin cfg0.N) (y : S3840x18944.Idx) : iblk m c 3 t y
    = Cert.Dh.gate (m ((c : Thread nD τ).loc main_arg2)) (y 0) (y 1) := by
  have h : iblk m c 3 t y = V m c main_v3 y := by
    unfold iblk
    generalize V m c = W
    blk_point [idx t]
  rw [h, V_gate]
  exact slice0_apply _ y

theorem up_block (c : Dev nD) (t : Fin cfg0.N) (y : S3840x18944.Idx) : iblk m c 4 t y
    = Cert.Dh.up (m ((c : Thread nD τ).loc main_arg2)) (y 0) (y 1) := by
  have h : iblk m c 4 t y = V m c main_v4 y := by
    unfold iblk
    generalize V m c = W
    blk_point [idx t]
  rw [h, V_up]
  exact slice1_apply _ y

theorem da_at (c : Dev nD) (t : Fin cfg0.N) (i : S3840x18944.Idx) : daW (iblk m c 1 t) (iblk m c 2 t) (iblk m c 0 t) i
    = Cert.Dh.da (m ((c : Thread nD τ).loc main_arg0)) (m ((c : Thread nD τ).loc main_arg1))
      (m ((c : Thread nD τ).loc main_arg3)) (m ((c : Thread nD τ).loc main_arg4)) (i 0) (i 1) := by
  simp only [daW, Cert.Dh.da]
  refine Ideal.mul_congr ?_ (factor_block m c t _)
  refine Fin.sum_fin_congr fun k => Ideal.mul_congr ?_ ?_
  · blk_point [iblk, V_main_arg0, idx t]
  · blk_point [iblk, V_main_arg1, idx t]

theorem gate_at (c : Dev nD) (t : Fin cfg0.N) (i : S3840x18944.Idx) :
    k0_pay5 (F := Ideal) (iblk m c 1 t) (iblk m c 2 t) (iblk m c 0 t) (iblk m c 3 t) (iblk m c 4 t) i
      = Cert.Dh.gateGrad (Cert.Dh.da (m ((c : Thread nD τ).loc main_arg0)) (m ((c : Thread nD τ).loc main_arg1))
          (m ((c : Thread nD τ).loc main_arg3)) (m ((c : Thread nD τ).loc main_arg4)) (i 0) (i 1))
          (Cert.Dh.gate (m ((c : Thread nD τ).loc main_arg2)) (i 0) (i 1)) (Cert.Dh.up (m ((c : Thread nD τ).loc main_arg2)) (i 0) (i 1)) := by
  rw [gate_apply, da_at, gate_block, up_block]

theorem up_at (c : Dev nD) (t : Fin cfg0.N) (i : S3840x18944.Idx) :
    k0_pay6 (F := Ideal) (iblk m c 1 t) (iblk m c 2 t) (iblk m c 0 t) (iblk m c 3 t) i
      = Cert.Dh.upGrad (Cert.Dh.da (m ((c : Thread nD τ).loc main_arg0)) (m ((c : Thread nD τ).loc main_arg1))
          (m ((c : Thread nD τ).loc main_arg3)) (m ((c : Thread nD τ).loc main_arg4)) (i 0) (i 1))
          (Cert.Dh.gate (m ((c : Thread nD τ).loc main_arg2)) (i 0) (i 1)) := by
  rw [up_apply, da_at, gate_block]

theorem pay7_apply (v0 : FVec Ideal S3840x3584 .fp8e5m2) (v1 : FVec Ideal S18944x3584 .fp8e4m3) (s : FVec Ideal S1x1 .f32)
    (g u : FVec Ideal S3840x18944 .bf16) (x : S1x3840x18944.Idx) :
    k0_pay7 (F := Ideal) v0 v1 s g u x = k0_pay5 (F := Ideal) v0 v1 s g u (ix2 (x 1) (x 2)) := by
  generalize hv : k0_pay5 (F := Ideal) v0 v1 s g u = v
  pointwise [k0_pay7, hv]

theorem pay8_apply (v0 : FVec Ideal S3840x3584 .fp8e5m2) (v1 : FVec Ideal S18944x3584 .fp8e4m3) (s : FVec Ideal S1x1 .f32)
    (g : FVec Ideal S3840x18944 .bf16) (x : S1x3840x18944.Idx) :
    k0_pay8 (F := Ideal) v0 v1 s g x = k0_pay6 (F := Ideal) v0 v1 s g (ix2 (x 1) (x 2)) := by
  generalize hv : k0_pay6 (F := Ideal) v0 v1 s g = v
  pointwise [k0_pay8, hv]

/-- What the reference leaves in the array of dH. -/
theorem hidden_out (c : Dev nD) (t : Fin cfg0.N) (y z : S2x3840x18944.Idx) (e0 : (z 0 : ℕ) = y 0)
    (e1 : (z 1 : ℕ) = y 1) (e2 : (z 2 : ℕ) = y 2) :
    (dats m 0 c).after 5 t y = Cert.Dh.hidden (m ((c : Thread nD τ).loc main_arg0)) (m ((c : Thread nD τ).loc main_arg1))
      (m ((c : Thread nD τ).loc main_arg2)) (m ((c : Thread nD τ).loc main_arg3)) (m ((c : Thread nD τ).loc main_arg4)) z := by
  rw [after0_5]
  frame_out
  canon_tiles x h
  · have z1 : z 1 = x 1 := Fin.ext (e1.trans h1)
    have z2 : z 2 = x 2 := Fin.ext (e2.trans h2)
    refine (pay8_apply _ _ _ _ x).trans ((up_at m c t _).trans ?_)
    unfold Cert.Dh.hidden
    rw [if_neg (by omega), z1, z2]
    rfl
  · have z1 : z 1 = x 1 := Fin.ext (e1.trans h1)
    have z2 : z 2 = x 2 := Fin.ext (e2.trans h2)
    refine (pay7_apply _ _ _ _ _ x).trans ((gate_at m c t _).trans ?_)
    unfold Cert.Dh.hidden
    rw [if_pos (by omega), z1, z2]
    rfl

/-- dH. -/
theorem final_hidden (c : Dev nD) : (dats m 0 c).arrAt 5 cfg0.N = Cert.Dh.hidden (m ((c : Thread nD τ).loc main_arg0))
    (m ((c : Thread nD τ).loc main_arg1)) (m ((c : Thread nD τ).loc main_arg2)) (m ((c : Thread nD τ).loc main_arg3))
    (m ((c : Thread nD τ).loc main_arg4)) := by
  refine (dats m 0 c).arrAt_eq_of_covers 5 _ (by decide +kernel) fun t _ y => ?_
  refine hidden_out m c t y _ ?_ ?_ ?_
  all_goals (blk_simp [idx t] <;> try omega)

theorem final_amax (c : Dev nD) : Cert.Dh.IsAmax (m ((c : Thread nD τ).loc main_arg0)) (m ((c : Thread nD τ).loc main_arg1))
    (m ((c : Thread nD τ).loc main_arg2)) (m ((c : Thread nD τ).loc main_arg3)) (m ((c : Thread nD τ).loc main_arg4))
    ((dats m 0 c).arrAt 6 cfg0.N) := by
  have t : Fin cfg0.N := ⟨0, by decide⟩
  have h : (dats m 0 c).arrAt 6 cfg0.N = k0_pay1 (k0_pay9 (F := Ideal) (iblk m c 1 t) (iblk m c 2 t) (iblk m c 0 t) (iblk m c 3 t) (iblk m c 4 t)) := by
    refine (dats m 0 c).arrAt_eq_of_covers 6 _ (by decide +kernel) fun t' _ y => ?_
    have ht : t' = t := by
      have h1 : t'.val < 1 := t'.isLt
      have h2 : t.val < 1 := t.isLt
      exact Fin.ext (by omega)
    subst ht
    rw [after0_6]
    frame_out
    generalize k0_pay1 (k0_pay9 (F := Ideal) (iblk m c 1 t') (iblk m c 2 t') (iblk m c 0 t') (iblk m c 3 t') (iblk m c 4 t')) = A
    blk_point [idx t']
  rw [h]
  intro i b
  rw [fold_apply]
  refine forall_congr' fun tt => forall_congr' fun ff => ?_
  rw [gate_at, up_at]
  rfl

end Cert.DhRefIdeal.Hand
-- ==== Proof.DhValues.lean ====
module

public import proofs.«01_k».proof.Defs
public import proofs.«01_k».proof.Proof.DhAmax
public import proofs.«01_k».proof.Proof.DhReference
public import Idealize.ShloMosaic.Lib.Pipeline.ValueKit
public import Idealize.ShloMosaic.Lib.Pointwise
public import Idealize.ShloMosaic.Lib.Claim
public import Idealize.ShloMosaic.Lib.Tactic.CleanTypes
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

/-! # dH: from equal arguments the kernel and the reference end with equal results -/

namespace Cert.Dh

/-- The kernel's results are the reference's. -/
theorem algebraic [hK : Cert.DhIdeal.Facts] [hR : Cert.DhRefIdeal.Facts] : algebraic_DhIdeal_DhRefIdeal := fun m ρ m' ρ' hpre hag =>
  ⟨_, _,
    (θ_run Cert.DhIdeal.defs _ _).mono (fun r h c => ⟨(h c).1.trans (Cert.DhIdeal.Hand.final_hidden m c), (h c).2.1, (h c).2.2⟩)
      (Cert.DhIdeal.Value.run_blocks m ρ),
    (θ_run Cert.DhRefIdeal.defs _ _).mono (fun r h c => ⟨(h c).1.trans ((Cert.DhRefIdeal.Hand.final_hidden m' c).trans (by
        rw [(hag c).1, (hag c).2.1, (hag c).2.2.1, (hag c).2.2.2.1, (hag c).2.2.2.2])),
      (h c).2.1.trans (IsAmax.unique (Cert.DhRefIdeal.Hand.final_amax m' c) (by
        rw [(hag c).1, (hag c).2.1, (hag c).2.2.1, (hag c).2.2.2.1, (hag c).2.2.2.2]
        exact Cert.DhIdeal.Hand.final_amax m c)), (h c).2.2⟩)
      (Cert.DhRefIdeal.Value.run_blocks m' ρ')⟩

end Cert.Dh
-- ==== Proof.DyMath.lean ====
module

public import proofs.«01_k».proof.Proof.DxMath
public import Idealize.ShloMosaic.Lib.Pipeline.ValueKit
public import Idealize.ShloMosaic.Lib.Pointwise
public import Idealize.ShloMosaic.Lib.Claim
public import Idealize.ShloMosaic.Lib.Tactic.CleanTypes
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

/-! # dY: the functions both programs compute -/

namespace Cert.Dy

/-- The magnitude of a number. -/
def magnitude (x : EReal) : EReal := max x (-x)

theorem magnitude_nonneg (x : EReal) : 0 ≤ magnitude x := by
  unfold magnitude
  rcases le_total 0 x with h | h
  · exact le_max_of_le_left h
  · exact le_max_of_le_right (EReal.neg_nonneg.mpr h)

/-- The gradient with its sequences laid one after the other. -/
def flat (dy : FVec Ideal ⟨3, ![3, 1280, 3584]⟩ .bf16) (r : Fin 3840) (l : Fin 3584) : EReal :=
  dy (ix3 ⟨(r : ℕ) / 1280, by omega⟩ ⟨(r : ℕ) % 1280, by omega⟩ l)

/-- The largest magnitude of the gradient. -/
def biggest (dy : FVec Ideal ⟨3, ![3, 1280, 3584]⟩ .bf16) : EReal := ⨆ i, magnitude (dy i)

/-- The largest magnitude, over the flat array. -/
theorem biggest_le (dy : FVec Ideal ⟨3, ![3, 1280, 3584]⟩ .bf16) (b : EReal) :
    biggest dy ≤ b ↔ ∀ (r : Fin 3840) (l : Fin 3584), magnitude (flat dy r l) ≤ b := by
  unfold biggest
  rw [iSup_le_iff]
  constructor
  · intro h r l
    exact h _
  · intro h i
    have b0 : (i 0 : ℕ) < 3 := (i 0).isLt
    have b1 : (i 1 : ℕ) < 1280 := (i 1).isLt
    have b2 : (i 2 : ℕ) < 3584 := (i 2).isLt
    have h' := h ⟨1280 * (i 0 : ℕ) + i 1, by omega⟩ ⟨i 2, b2⟩
    have e : i = ix3 ⟨(1280 * (i 0 : ℕ) + i 1) / 1280, by omega⟩ ⟨(1280 * (i 0 : ℕ) + i 1) % 1280, by omega⟩ ⟨i 2, b2⟩ := by
      funext k
      fin_cases k
      · exact Fin.ext (by show (i 0 : ℕ) = (1280 * (i 0 : ℕ) + i 1) / 1280; omega)
      · exact Fin.ext (by show (i 1 : ℕ) = (1280 * (i 0 : ℕ) + i 1) % 1280; omega)
      · rfl
    rw [e]
    exact h'

/-- The codes: every entry times the inverse scale, clipped. -/
def codes (dy : FVec Ideal ⟨3, ![3, 1280, 3584]⟩ .bf16) (inv : EReal) : FVec Ideal ⟨2, ![3840, 3584]⟩ .fp8e5m2 :=
  fun i => Cert.Dx.clip (flat dy (i 0) (i 1)) inv

end Cert.Dy
-- ==== Proof.DyBlock.lean ====
module

public import proofs.«01_k».proof.Proof.DyMath
public import proofs.«01_k».proof.Proof.Gen.DyIdeal.Value
public import Idealize.ShloMosaic.Lib.Pipeline.ValueKit
public import Idealize.ShloMosaic.Lib.Pointwise
public import Idealize.ShloMosaic.Lib.Claim
public import Idealize.ShloMosaic.Lib.Tactic.CleanTypes
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! # dY: what the kernel computes from a block -/

namespace Cert.DyIdeal.Hand

open Cert.DyIdeal Cert.DyIdeal.Gen Cert.DyIdeal.Value

/-- The kernel's search for the exponent field, read at one element. -/
theorem field_apply (a : FVec Ideal S8x128 .f32) (i : S8x128.Idx) :
    k0_pay12 (k0_pay9 (F := Ideal) a) (k0_pay10 (F := Ideal) a) (k0_pay11 (F := Ideal) a) i = Cert.Scale.field (k0_pay9 (F := Ideal) a i) := by
  have h5 : k0_pay10 (F := Ideal) a = Cert.Scale.stepV (k0_pay9 (F := Ideal) a) (Cert.Scale.stepV (k0_pay9 (F := Ideal) a)
      (Cert.Scale.stepV (k0_pay9 (F := Ideal) a) (broadcast S8x128 0#32) 128#32) 64#32) 32#32 := rfl
  have h6 : k0_pay12 (k0_pay9 (F := Ideal) a) (k0_pay10 (F := Ideal) a) (k0_pay11 (F := Ideal) a) =
      Cert.Scale.stepV (k0_pay9 (F := Ideal) a) (Cert.Scale.stepV (k0_pay9 (F := Ideal) a) (Cert.Scale.stepV (k0_pay9 (F := Ideal) a)
        (Cert.Scale.stepV (k0_pay9 (F := Ideal) a) (Cert.Scale.stepV (k0_pay9 (F := Ideal) a) (k0_pay10 (F := Ideal) a) 16#32) 8#32) 4#32) 2#32) 1#32 := rfl
  rw [h6, h5]
  simp only [Cert.Scale.stepV_apply]
  rfl

/-- The number searched: the largest magnitude times the unit, at every element. -/
theorem ratio_apply (a : FVec Ideal S8x128 .f32) (i : S8x128.Idx) :
    k0_pay9 (F := Ideal) a i = Cert.Scale.largest a * Cert.Scale.unit := by
  pointwise [k0_pay9]
  rw [Cert.Scale.fold_rows]
  rfl

/-- The scale array a point writes, from the partial maxima. -/
abbrev scaleOf (a : FVec Ideal S8x128 .f32) : FVec Ideal S8x128 .f32 :=
  k0_pay4 (F := Ideal) (k0_pay13 (k0_pay9 (F := Ideal) a) (k0_pay10 (F := Ideal) a) (k0_pay11 (F := Ideal) a))
    (k0_pay14 (k0_pay9 (F := Ideal) a) (k0_pay10 (F := Ideal) a) (k0_pay11 (F := Ideal) a)) k0_pay15

/-- The codes a point writes, from the partial maxima and its block. -/
abbrev codesOf (a : FVec Ideal S8x128 .f32) (v : FVec Ideal S256x3584 .bf16) : FVec Ideal S256x3584 .fp8e5m2 :=
  k0_pay5 (F := Ideal) (k0_pay13 (k0_pay9 (F := Ideal) a) (k0_pay10 (F := Ideal) a) (k0_pay11 (F := Ideal) a))
    (k0_pay14 (k0_pay9 (F := Ideal) a) (k0_pay10 (F := Ideal) a) (k0_pay11 (F := Ideal) a)) k0_pay15 v

theorem scale_apply (a : FVec Ideal S8x128 .f32) (i : S8x128.Idx) :
    scaleOf a i = Cert.Scale.scaleBits (Cert.Scale.largest a * Cert.Scale.unit) := by
  pointwise [scaleOf, k0_pay4, k0_pay3, k0_pay13, k0_pay14, k0_pay15]
  rw [Cert.Scale.expo_spelt, field_apply, ratio_apply]
  rfl

theorem codes_apply (a : FVec Ideal S8x128 .f32) (v : FVec Ideal S256x3584 .bf16) (i : S256x3584.Idx) :
    codesOf a v i = Cert.Dx.clip (v i) (Cert.Scale.invBits (Cert.Scale.largest a * Cert.Scale.unit)) := by
  pointwise [codesOf, k0_pay5, k0_pay3, k0_pay13, k0_pay14, k0_pay15]
  rw [Cert.Scale.expo_spelt, field_apply, ratio_apply]
  rfl

/-- The largest magnitudes of the rows congruent modulo 8. -/
theorem rows_le (v : FVec Ideal S256x3584 .bf16) (i : S8x3584.Idx) (b : EReal) :
    (k0_pay6 (F := Ideal) v i : EReal) ≤ b ↔ ∀ r : Fin 32, Cert.Dy.magnitude
      (v (ix2 ⟨r * 8 + i 0, by have : (i 0 : ℕ) < 8 := (i 0).isLt; omega⟩ (i 1))) ≤ b := by
  pointwise [k0_pay6]
  have e : ∀ x : EReal, FloatOps.absf (F := Ideal) (φ := .f32) x = Cert.Dy.magnitude x := fun _ => rfl
  have hb : Ideal.ofBits .f32 4286578688#32 ≤ b := by
    have : Ideal.ofBits .f32 4286578688#32 = ⊥ := by simp [Ideal.ofBits, Ideal.ieee]
    rw [this]; exact bot_le
  simp only [Finset.fold_max_le, Finset.mem_univ, true_implies, e, hb, true_and]

/-- The 28 groups of 128 lanes folded into the partial maxima. -/
theorem lanes_le (v : FVec Ideal S256x3584 .bf16) (acc : FVec Ideal S8x128 .f32) (i : S8x128.Idx) (b : EReal) :
    (k0_pay2 acc (k0_pay6 (F := Ideal) v) (k0_pay7 (F := Ideal) v) (k0_pay8 (F := Ideal) v) i : EReal) ≤ b
      ↔ (acc i : EReal) ≤ b ∧ ∀ l : Fin 28, (k0_pay6 (F := Ideal) v
          (ix2 (i 0) ⟨128 * l + i 1, by have : (i 1 : ℕ) < 128 := (i 1).isLt; omega⟩) : EReal) ≤ b := by
  pointwise [k0_pay2, k0_pay7, k0_pay8]
  generalize k0_pay6 (F := Ideal) v = w
  simp only [max_le_iff]
  refine and_congr_right fun _ => ⟨?_, fun H => ?_⟩
  · rintro ⟨⟨⟨⟨⟨⟨⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩, h24⟩, h25⟩, h26⟩, h27⟩ l
    fin_cases l
    all_goals first | exact h1 | exact h2 | exact h3 | exact h4 | exact h5 | exact h6 | exact h7 | exact h8 | exact h9 | exact h10 | exact h11 | exact h12 | exact h13 | exact h14 | exact h15 | exact h16 | exact h17 | exact h18 | exact h19 | exact h20 | exact h21 | exact h22 | exact h23 | exact h24 | exact h25 | exact h26 | exact h27 | (simpa using h0)
  · exact ⟨⟨⟨⟨⟨⟨⟨⟨⟨⟨⟨⟨⟨⟨⟨⟨⟨⟨⟨⟨⟨⟨⟨⟨⟨⟨⟨by simpa using H 0, H 1⟩, H 2⟩, H 3⟩, H 4⟩, H 5⟩, H 6⟩, H 7⟩, H 8⟩, H 9⟩, H 10⟩, H 11⟩, H 12⟩, H 13⟩, H 14⟩, H 15⟩, H 16⟩, H 17⟩, H 18⟩, H 19⟩, H 20⟩, H 21⟩, H 22⟩, H 23⟩, H 24⟩, H 25⟩, H 26⟩, H 27⟩

/-- The fold of a block into the partial maxima: the rows congruent modulo 8 and the lanes congruent modulo 128. -/
theorem fold_apply (v : FVec Ideal S256x3584 .bf16) (acc : FVec Ideal S8x128 .f32) (i : S8x128.Idx) (b : EReal) :
    (k0_pay2 acc (k0_pay6 (F := Ideal) v) (k0_pay7 (F := Ideal) v) (k0_pay8 (F := Ideal) v) i : EReal) ≤ b
      ↔ (acc i : EReal) ≤ b ∧ ∀ j : S256x3584.Idx, (j 0 : ℕ) % 8 = i 0 → (j 1 : ℕ) % 128 = i 1 →
        Cert.Dy.magnitude (v j) ≤ b := by
  rw [lanes_le]
  simp only [rows_le]
  have a0 : (i 0 : ℕ) < 8 := (i 0).isLt
  have a1 : (i 1 : ℕ) < 128 := (i 1).isLt
  refine and_congr_right fun _ => ⟨fun H j h0 h1 => ?_, fun H l r => ?_⟩
  · have b0 : (j 0 : ℕ) < 256 := (j 0).isLt
    have b1 : (j 1 : ℕ) < 3584 := (j 1).isLt
    have h := H ⟨(j 1 : ℕ) / 128, by omega⟩ ⟨(j 0 : ℕ) / 8, by omega⟩
    have hj : j = ix2 ⟨(j 0 : ℕ) / 8 * 8 + i 0, by omega⟩ ⟨128 * ((j 1 : ℕ) / 128) + i 1, by omega⟩ := by
      funext k
      fin_cases k
      · exact Fin.ext (by show (j 0 : ℕ) = (j 0 : ℕ) / 8 * 8 + i 0; omega)
      · exact Fin.ext (by show (j 1 : ℕ) = 128 * ((j 1 : ℕ) / 128) + i 1; omega)
    rw [hj]
    exact h
  · exact H (ix2 ⟨r * 8 + i 0, by omega⟩ ⟨128 * l + i 1, by omega⟩)
      (by show ((r : ℕ) * 8 + i 0) % 8 = i 0; omega) (by show (128 * (l : ℕ) + i 1) % 128 = i 1; omega)

theorem zero_apply (i : S8x128.Idx) : (k0_pay1 (F := Ideal) i : EReal) = 0 := by
  pointwise [k0_pay1]

end Cert.DyIdeal.Hand
-- ==== Proof.DyKernel.lean ====
module

public import proofs.«01_k».proof.Proof.DyBlock
public import proofs.«01_k».proof.Proof.Gen.DyIdeal.Value
public import Idealize.ShloMosaic.Lib.Pipeline.ValueKit
public import Idealize.ShloMosaic.Lib.Pointwise
public import Idealize.ShloMosaic.Lib.Claim
public import Idealize.ShloMosaic.Lib.Tactic.CleanTypes
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! # dY: what the kernel's result arrays hold -/

namespace Cert.DyIdeal.Hand

open Cert.DyIdeal Cert.DyIdeal.Gen Cert.DyIdeal.Value

variable (m : (ℓ : Loc nD τ sig) → Buf (Elt Ideal) ℓ)

/-- Which blocks the windows hold at a grid point. -/
theorem idx : ∀ t : Fin cfg0.N,
    win0_0.index t = ![t.val % 15, 0] ∧
    win0_1.index t = ![if t.val < 15 then 0 else t.val - 15, 0] ∧
    win0_2.index t = ![0, 0] :=
  (by decide +kernel : ∀ t : Fin grid0.N, _)

/-- The codes are written back in the second pass only. -/
theorem flush_codes : ∀ t : Fin cfg0.N, (cfg0.win 1).flush t = true → 15 ≤ t.val :=
  (by decide +kernel : ∀ t : Fin grid0.N, win0_1.flush t = true → 15 ≤ t.val)

/-- The gradient with its sequences laid one after the other, written before the region. -/
theorem V_dy (c : Dev nD) : V m c main_v0 = shapeCast S3840x3584 (m ((c : Thread nD τ).loc main_arg0) : FVec Ideal S3x1280x3584 .bf16)
    shapeCasts_S3x1280x3584_S3840x3584 := by
  after_reads_simp
  rfl

theorem flat_apply (dy : FVec Ideal S3x1280x3584 .bf16) (i : S3840x3584.Idx) :
    shapeCast S3840x3584 dy shapeCasts_S3x1280x3584_S3840x3584 i = Cert.Dy.flat dy (i 0) (i 1) := by
  simp only [Cert.Dy.flat]
  pointwise

/-- One entry of the block a point reads. -/
theorem block_at (c : Dev nD) (t : Fin cfg0.N) (j : S256x3584.Idx) (r : Fin 3840) (l : Fin 3584)
    (hr : (r : ℕ) = 256 * (t.val % 15) + j 0) (hl : (l : ℕ) = j 1) :
    iblk m c 0 t j = Cert.Dy.flat (m ((c : Thread nD τ).loc main_arg0)) r l := by
  have h : iblk m c 0 t j = V m c main_v0 (ix2 r l) := by
    unfold iblk
    generalize V m c = W
    blk_point [idx t]
  rw [h, V_dy, flat_apply]
  rfl

/-- The magnitude of one entry. -/
abbrev mag (c : Dev nD) (r : Fin 3840) (l : Fin 3584) : EReal :=
  Cert.Dy.magnitude (Cert.Dy.flat (m ((c : Thread nD τ).loc main_arg0)) r l)

/-- What a point of the first pass folds into the partial maxima: the rows of its block. -/
theorem block_le (c : Dev nD) (t : Fin cfg0.N) (ht : t.val < 15) (acc : FVec Ideal S8x128 .f32) (i : S8x128.Idx) (b : EReal) :
    (k0_pay2 acc (k0_pay6 (F := Ideal) (iblk m c 0 t)) (k0_pay7 (F := Ideal) (iblk m c 0 t)) (k0_pay8 (F := Ideal) (iblk m c 0 t)) i : EReal) ≤ b
      ↔ (acc i : EReal) ≤ b ∧ ∀ (r : Fin 3840) (l : Fin 3584), (r : ℕ) / 256 = t.val →
        (r : ℕ) % 8 = i 0 → (l : ℕ) % 128 = i 1 → mag m c r l ≤ b := by
  rw [fold_apply]
  refine and_congr_right fun _ => ⟨fun H r l hp h0 h1 => ?_, fun H j h0 h1 => ?_⟩
  · have h := H (ix2 ⟨(r : ℕ) % 256, by omega⟩ l) (by show (r : ℕ) % 256 % 8 = i 0; omega) h1
    rw [block_at m c t _ r l (by show (r : ℕ) = 256 * (t.val % 15) + (r : ℕ) % 256; omega) rfl] at h
    exact h
  · have b0 : (j 0 : ℕ) < 256 := (j 0).isLt
    have b1 : (j 1 : ℕ) < 3584 := (j 1).isLt
    have h := H ⟨256 * (t.val % 15) + j 0, by omega⟩ ⟨j 1, b1⟩ (by show (256 * (t.val % 15) + j 0) / 256 = t.val; omega)
      (by show (256 * (t.val % 15) + j 0) % 8 = i 0; omega) h1
    rw [block_at m c t j ⟨256 * (t.val % 15) + j 0, by omega⟩ ⟨j 1, b1⟩ rfl rfl]
    exact h

/-- The partial maxima after a point: the largest magnitudes of the rows read so far, and zero. The second pass
leaves them as they are. -/
theorem scratch_le (c : Dev nD) : ∀ (n : ℕ) (hn : n < cfg0.N) (i : S8x128.Idx) (b : EReal),
    ((outsAt0 m c n hn).2.2 i : EReal) ≤ b ↔ 0 ≤ b ∧ ∀ (r : Fin 3840) (l : Fin 3584), (r : ℕ) / 256 ≤ n →
      (r : ℕ) % 8 = i 0 → (l : ℕ) % 128 = i 1 → mag m c r l ≤ b := by
  intro n
  induction n with
  | zero =>
    intro hn i b
    rw [outsAt0_A m c ⟨0, hn⟩ rfl (by show 0 < 15; omega) (by show ¬15 ≤ 0; omega)]
    frame_out
    refine (block_le m c ⟨0, hn⟩ (by show 0 < 15; omega) _ i b).trans ?_
    rw [zero_apply]
    simp only [Nat.le_zero]
  | succ n ih =>
    intro hn i b
    have hN : n + 1 < 30 := hn
    by_cases hp : n + 1 < 15
    · rw [outsAt0_B m c ⟨n + 1, hn⟩ (by show ¬(n + 1) % 30 = 0; omega) hp (by show ¬15 ≤ n + 1; omega)]
      frame_out
      refine (block_le m c ⟨n + 1, hn⟩ hp _ i b).trans ?_
      rw [read_unread_whole]
      refine (and_congr_left' (ih (Nat.lt_of_succ_lt hn) i b)).trans ?_
      constructor
      · rintro ⟨⟨h, H⟩, K⟩
        refine ⟨h, fun r l hp h0 h1 => ?_⟩
        rcases Nat.lt_or_ge n ((r : ℕ) / 256) with hlt | hge
        · exact K r l (le_antisymm hp hlt) h0 h1
        · exact H r l hge h0 h1
      · rintro ⟨h, H⟩
        exact ⟨⟨h, fun r l hp => H r l (Nat.le_succ_of_le hp)⟩, fun r l hp => H r l (le_of_eq hp)⟩
    · rw [outsAt0_C m c ⟨n + 1, hn⟩ (by show ¬(n + 1) % 30 = 0; omega) hp (by show 15 ≤ n + 1; omega)]
      show ((outsAt0 m c n (Nat.lt_of_succ_lt hn)).2.2 i : EReal) ≤ b ↔ _
      refine (ih (Nat.lt_of_succ_lt hn) i b).trans (and_congr_right fun _ => ?_)
      exact ⟨fun H r l _ => H r l (by omega), fun H r l _ => H r l (by omega)⟩

/-- After the first pass the largest partial maximum is the largest magnitude of the gradient. -/
theorem largest_scratch (c : Dev nD) (n : ℕ) (hn : n < cfg0.N) (hl : 14 ≤ n) :
    Cert.Scale.largest (outsAt0 m c n hn).2.2 = Cert.Dy.biggest (m ((c : Thread nD τ).loc main_arg0)) := by
  refine eq_of_forall_ge_iff fun b => ?_
  rw [Cert.Dy.biggest_le]
  have hb : Ideal.ofBits .f32 4286578688#32 ≤ b := by
    have : Ideal.ofBits .f32 4286578688#32 = ⊥ := by simp [Ideal.ofBits, Ideal.ieee]
    rw [this]; exact bot_le
  unfold Cert.Scale.largest
  simp only [Finset.fold_max_le, Finset.mem_univ, true_implies, hb, true_and, Prod.forall]
  constructor
  · intro H r l
    exact ((scratch_le m c n hn _ b).mp (H ⟨(r : ℕ) % 8, by omega⟩ ⟨(l : ℕ) % 128, by omega⟩)).2 r l (by omega) rfl rfl
  · intro H x y
    exact (scratch_le m c n hn _ b).mpr ⟨(Cert.Dy.magnitude_nonneg _).trans (H 0 0), fun r l _ _ _ => H r l⟩

/-- The scale written at a point of the second pass. -/
theorem scale_out (c : Dev nD) (t : Fin cfg0.N) (ht : 15 ≤ t.val) (i : S8x128.Idx) :
    (outsAt0 m c t.val t.isLt).2.1 i
      = Cert.Scale.scaleBits (Cert.Dy.biggest (m ((c : Thread nD τ).loc main_arg0)) * Cert.Scale.unit) := by
  have hN : t.val < 30 := t.isLt
  rw [outsAt0_C m c t (by omega) (by omega) ht]
  frame_out
  rw [read_unread_whole]
  refine (scale_apply _ i).trans ?_
  rw [largest_scratch m c _ _ (by omega)]

/-- The codes written at a point of the second pass. -/
theorem codes_out (c : Dev nD) (t : Fin cfg0.N) (ht : 15 ≤ t.val) (i : S256x3584.Idx) :
    (outsAt0 m c t.val t.isLt).1 i = Cert.Dx.clip (iblk m c 0 t i)
      (Cert.Scale.invBits (Cert.Dy.biggest (m ((c : Thread nD τ).loc main_arg0)) * Cert.Scale.unit)) := by
  have hN : t.val < 30 := t.isLt
  rw [outsAt0_C m c t (by omega) (by omega) ht]
  frame_out
  rw [read_unread_whole]
  refine (codes_apply _ _ i).trans ?_
  rw [largest_scratch m c _ _ (by omega)]

/-- The scale array: the kernel's scale at every element. -/
theorem final_scale (c : Dev nD) : (dats m 0 c).arrAt 2 cfg0.N = Cert.Dx.scale
    (Cert.Scale.scaleBits (Cert.Dy.biggest (m ((c : Thread nD τ).loc main_arg0)) * Cert.Scale.unit)) := by
  refine (dats m 0 c).arrAt_eq_of_covers 2 _ (by decide +kernel) fun t hf y => ?_
  have h := (flush0_2 t).mp hf
  blk_simp
  rw [after0_2, scale_out m c t (by omega)]
  rfl

/-- The code array. -/
theorem final_codes (c : Dev nD) : (dats m 0 c).arrAt 1 cfg0.N = Cert.Dy.codes (m ((c : Thread nD τ).loc main_arg0))
    (Cert.Scale.invBits (Cert.Dy.biggest (m ((c : Thread nD τ).loc main_arg0)) * Cert.Scale.unit)) := by
  refine (dats m 0 c).arrAt_eq_of_covers 1 _ (by decide +kernel) fun t hf y => ?_
  have h := flush_codes t hf
  have hN : t.val < 30 := t.isLt
  rw [after0_1, codes_out m c t h]
  simp only [Cert.Dy.codes]
  refine congrArg (fun x => Cert.Dx.clip x _) ?_
  refine block_at m c t y _ _ ?_ ?_
  · blk_simp [idx t]
    rw [if_neg (by omega)]
    omega
  · blk_simp [idx t] <;> try omega

end Cert.DyIdeal.Hand
-- ==== Proof.DyHost.lean ====
module

public import proofs.«01_k».proof.Proof.DyMath
public import proofs.«01_k».proof.Proof.Gen.DyRefIdeal.Value
public import Idealize.ShloMosaic.Lib.Pipeline.ValueKit
public import Idealize.ShloMosaic.Lib.Pointwise
public import Idealize.ShloMosaic.Lib.Claim
public import Idealize.ShloMosaic.Lib.Tactic.CleanTypes
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

/-! # dY: what the reference computes before its code array -/

namespace Cert.DyRefIdeal.Hand

open Cert.DyRefIdeal Cert.DyRefIdeal.Gen Cert.DyRefIdeal.Value

variable (m : (ℓ : Loc nD τ sig) → Buf (Elt Ideal) ℓ)

/-- The largest magnitude, as the host computes it. -/
def amax (dy : FVec Ideal S3x1280x3584 .bf16) : FVec Ideal S_ .f32 :=
  Host.reduce FloatOps.maximumf (Host.absf (extf .f32 dy bitsLt_bf16_f32 : FVec Ideal S3x1280x3584 .f32)) (constant S_ .f32 0xFF800000#32)
    reducesTo_S3x1280x3584_S_d0_1_2 h_S_

theorem amax_apply (dy : FVec Ideal S3x1280x3584 .bf16) (i : S_.Idx) : amax dy i = Cert.Dy.biggest dy := by
  refine eq_of_forall_ge_iff fun b => ?_
  unfold amax
  pointwise
  have hb : Ideal.ofBits .f32 4286578688#32 ≤ b := by
    have : Ideal.ofBits .f32 4286578688#32 = ⊥ := by simp [Ideal.ofBits, Ideal.ieee]
    rw [this]; exact bot_le
  simp only [Cert.Dy.biggest, iSup_le_iff, Finset.fold_max_le, Finset.mem_univ, true_implies, hb, true_and, Prod.forall]
  constructor
  · intro H j
    have e : j = ix3 (j 0) (j 1) (j 2) := by funext k; fin_cases k <;> rfl
    rw [e]
    exact H (j 0) (j 1) (j 2)
  · intro H x y z
    exact H (ix3 x y z)

/-- The exponent of the reference's scale. -/
abbrev expo (c : Dev nD) : EReal := Cert.Scale.exponent (Cert.Dy.biggest (m ((c : Thread nD τ).loc main_arg0)))
  (Cert.Dy.biggest (m ((c : Thread nD τ).loc main_arg0)) * Cert.Scale.unit)

theorem expo_apply (c : Dev nD) (i : S_.Idx) : Cert.Scale.hostExponent (amax (m ((c : Thread nD τ).loc main_arg0))) i = expo m c := by
  rw [Cert.Scale.hostExponent_apply, amax_apply]

/-- The scale array, written before the region. -/
theorem V_scale (c : Dev nD) : V m c main_v14 = broadcastInDim S8x128 ![] bcast_S_S8x128
    (Host.powf (constant S_ .f32 1073741824#32) (Cert.Scale.hostExponent (amax (m ((c : Thread nD τ).loc main_arg0))))) := by
  after_reads_simp
  simp -implicitDefEqProofs only [StableHlo.TRef.toBuf, StableHlo.TRef.ofBuf, cast_eq, id_eq]
  rfl

theorem V_inv (c : Dev nD) : V m c main_v15 = shapeCast S1x1
    (Host.powf (constant S_ .f32 1073741824#32) (Host.negf (Cert.Scale.hostExponent (amax (m ((c : Thread nD τ).loc main_arg0)))))) shapeCasts_S_S1x1 := by
  after_reads_simp
  simp -implicitDefEqProofs only [StableHlo.TRef.toBuf, StableHlo.TRef.ofBuf, cast_eq, id_eq]
  rfl

/-- A power of two with the exponent's opposite, as a 1x1 block. -/
theorem inv_apply (e : FVec Ideal S_ .f32) (y : S1x1.Idx) : shapeCast S1x1
    (Host.powf (constant S_ .f32 1073741824#32) (Host.negf e)) shapeCasts_S_S1x1 y = Ideal.pow (2 : ℝ) (-(e ix0 : EReal)) := by
  pointwise
  rw [Cert.Scale.ofBits_two]

/-- A power of two, repeated over a tile. -/
theorem tile_apply (e : FVec Ideal S_ .f32) : broadcastInDim S8x128 ![] bcast_S_S8x128
    (Host.powf (constant S_ .f32 1073741824#32) e) = Cert.Dx.scale (Ideal.pow (2 : ℝ) (e ix0 : EReal)) := by
  funext i
  pointwise [Cert.Dx.scale]
  rw [Cert.Scale.ofBits_two]

/-- The reference's codes, read at one element. -/
theorem code_apply (v : FVec Ideal S3840x3584 .bf16) (s : FVec Ideal S1x1 .f32) (i : S3840x3584.Idx) :
    k0_pay1 (F := Ideal) v s i = Cert.Dx.clip (v i) (s (ix2 0 0)) := by
  pointwise [k0_pay1]
  rfl

/-- The gradient with its sequences laid one after the other, written before the region. -/
theorem V_dy (c : Dev nD) : V m c main_v16 = shapeCast S3840x3584 (m ((c : Thread nD τ).loc main_arg0) : FVec Ideal S3x1280x3584 .bf16)
    shapeCasts_S3x1280x3584_S3840x3584 := by
  after_reads_simp
  rfl

theorem flat_apply (dy : FVec Ideal S3x1280x3584 .bf16) (i : S3840x3584.Idx) :
    shapeCast S3840x3584 dy shapeCasts_S3x1280x3584_S3840x3584 i = Cert.Dy.flat dy (i 0) (i 1) := by
  simp only [Cert.Dy.flat]
  pointwise

end Cert.DyRefIdeal.Hand
-- ==== Proof.DyReference.lean ====
module

public import proofs.«01_k».proof.Proof.DyHost
public import proofs.«01_k».proof.Proof.Gen.DyRefIdeal.Value
public import Idealize.ShloMosaic.Lib.Pipeline.ValueKit
public import Idealize.ShloMosaic.Lib.Pointwise
public import Idealize.ShloMosaic.Lib.Claim
public import Idealize.ShloMosaic.Lib.Tactic.CleanTypes
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

/-! # dY: what the reference's result arrays hold -/

namespace Cert.DyRefIdeal.Hand

open Cert.DyRefIdeal Cert.DyRefIdeal.Gen Cert.DyRefIdeal.Value

variable (m : (ℓ : Loc nD τ sig) → Buf (Elt Ideal) ℓ)

/-- The reference's one grid point holds the whole arrays. -/
theorem idx : ∀ t : Fin cfg0.N, win0_0.index t = ![0, 0] ∧ win0_1.index t = ![0, 0] ∧ win0_2.index t = ![0, 0] :=
  (by decide +kernel : ∀ t : Fin grid0.N, _)

/-- The first window's block of any array is the whole array. -/
theorem first_window (c : Dev nD) (W : (b : Ref sig .tc) → Buf (Elt Ideal) ((c : Thread nD τ).loc b)) (t : Fin cfg0.N) (y : S1x1.Idx) :
    ((cfg0.win 0).blk t).view.read (Elt Ideal) (W (Pipeline.arrRef spec0 0)) y = W main_v15 y := by
  blk_point [idx t]

theorem inv_array (c : Dev nD) (y : S1x1.Idx) : V m c main_v15 y = Ideal.pow (2 : ℝ) (-expo m c) :=
  (congrFun (V_inv m c) y).trans ((inv_apply _ y).trans (congrArg (fun e : EReal => Ideal.pow (2 : ℝ) (-e)) (expo_apply m c ix0)))

theorem inv_block (c : Dev nD) (t : Fin cfg0.N) (y : S1x1.Idx) : iblk m c 0 t y = Ideal.pow (2 : ℝ) (-expo m c) :=
  (first_window c (V m c) t y).trans (inv_array m c y)

theorem dy_block (c : Dev nD) (t : Fin cfg0.N) (y : S3840x3584.Idx) :
    iblk m c 1 t y = Cert.Dy.flat (m ((c : Thread nD τ).loc main_arg0)) (y 0) (y 1) := by
  have h : iblk m c 1 t y = V m c main_v16 y := by
    unfold iblk
    generalize V m c = W
    blk_point [idx t]
  rw [h, V_dy]
  exact flat_apply _ y

theorem codes_at (c : Dev nD) (t : Fin cfg0.N) (i : S3840x3584.Idx) :
    k0_pay1 (F := Ideal) (iblk m c 1 t) (iblk m c 0 t) i
      = Cert.Dy.codes (m ((c : Thread nD τ).loc main_arg0)) (Ideal.pow (2 : ℝ) (-expo m c)) i := by
  rw [code_apply, inv_block, dy_block]
  rfl

/-- The code array. -/
theorem final_codes (c : Dev nD) : (dats m 0 c).arrAt 2 cfg0.N
    = Cert.Dy.codes (m ((c : Thread nD τ).loc main_arg0)) (Ideal.pow (2 : ℝ) (-expo m c)) := by
  refine (dats m 0 c).arrAt_eq_of_covers 2 _ (by decide +kernel) fun t _ y => ?_
  blk_simp
  rw [after0_2]
  frame_out
  refine (codes_at m c t _).trans (congrArg _ ?_)
  blk_ext [idx t]

/-- The reference's run: its two results and its argument afterwards. -/
theorem run (ρ : Dev nD → PrngReg) : θ_run defs (onTc (τ := τ) (main (F := Ideal))) ⟨m, fun _ => 0, ρ⟩ fun r => ∀ c : Dev nD,
    r.2.mem ((c : Thread nD τ).loc main_v17) = Cert.Dy.codes (m ((c : Thread nD τ).loc main_arg0)) (Ideal.pow (2 : ℝ) (-expo m c))
    ∧ r.2.mem ((c : Thread nD τ).loc main_v14) = Cert.Dx.scale (Ideal.pow (2 : ℝ) (expo m c))
    ∧ r.2.mem ((c : Thread nD τ).loc main_arg0) = m ((c : Thread nD τ).loc main_arg0) :=
  (θ_run defs _ _).mono (fun r h c => ⟨(post2 m r h c).trans (final_codes m c),
      ((h c).2 main_v14 (Pipeline.mem_restRefs_of main_v14 (by decide) (by decide))).trans ((V_scale m c).trans (by rw [tile_apply, expo_apply])),
      kept_main_arg0 m r h c⟩)
    (run_main m ρ)

end Cert.DyRefIdeal.Hand
-- ==== Proof.DyRange.lean ====
module

public import proofs.«01_k».proof.Proof.DyHost
public import proofs.«01_k».proof.Proof.Gen.Pre_dy_scale_is_normal
public import Idealize.ShloMosaic.Lib.Pipeline.ValueKit
public import Idealize.ShloMosaic.Lib.Pointwise
public import Idealize.ShloMosaic.Lib.Claim
public import Idealize.ShloMosaic.Lib.Tactic.CleanTypes
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

/-! # dY: what the precondition says -/

namespace Cert.Dy

/-- The condition on the largest magnitude. -/
abbrev condition [hP : Cert.Pre_dy_scale_is_normal.Facts] (a : FVec Ideal Cert.Pre_dy_scale_is_normal.S_ .f32) : IVec Cert.Pre_dy_scale_is_normal.S_ 1 :=
  ori (cmpf .oeq a (constant Cert.Pre_dy_scale_is_normal.S_ .f32 0x00000000#32))
    (andi (cmpf .oge (mulf a (constant Cert.Pre_dy_scale_is_normal.S_ .f32 0x37924925#32)) (constant Cert.Pre_dy_scale_is_normal.S_ .f32 0x00800000#32))
      (cmpf .olt (mulf a (constant Cert.Pre_dy_scale_is_normal.S_ .f32 0x37924925#32)) (constant Cert.Pre_dy_scale_is_normal.S_ .f32 0x7E800000#32)))

theorem inRange_of_condition [hP : Cert.Pre_dy_scale_is_normal.Facts] (a : FVec Ideal Cert.Pre_dy_scale_is_normal.S_ .f32) (i : Cert.Pre_dy_scale_is_normal.S_.Idx)
    (h : condition a i = 1#1) : Cert.Scale.InRange (a i) ((a i : EReal) * Cert.Scale.unit) := by
  apply Cert.Scale.inRange_of_pre
  rw [← h]
  pointwise [condition]

/-- The precondition is the condition on the largest magnitude. -/
theorem pre_eq [hP : Cert.Pre_dy_scale_is_normal.Facts] [hR : Cert.DyRefIdeal.Facts] (dy : FVec Ideal Cert.Pre_dy_scale_is_normal.S3x1280x3584 .bf16) :
    Cert.Pre_dy_scale_is_normal.fn (F := Ideal) dy = condition (Cert.DyRefIdeal.Hand.amax dy) := by
  unfold Cert.Pre_dy_scale_is_normal.fn Cert.DyRefIdeal.Hand.amax
  rfl

/-- The precondition puts the largest magnitude in range. -/
theorem inRange [hP : Cert.Pre_dy_scale_is_normal.Facts] [hR : Cert.DyRefIdeal.Facts] (dy : FVec Ideal Cert.Pre_dy_scale_is_normal.S3x1280x3584 .bf16)
    (h : Cert.Pre_dy_scale_is_normal.fn (F := Ideal) dy = fun _ => 1#1) :
    Cert.Scale.InRange (biggest dy) (biggest dy * Cert.Scale.unit) := by
  have h0 := inRange_of_condition (Cert.DyRefIdeal.Hand.amax dy) ix0 (congrFun ((pre_eq dy).symm.trans h) ix0)
  rw [Cert.DyRefIdeal.Hand.amax_apply] at h0
  exact h0

end Cert.Dy
-- ==== Proof.DyValues.lean ====
module

public import proofs.«01_k».proof.Defs
public import proofs.«01_k».proof.Proof.DyKernel
public import proofs.«01_k».proof.Proof.DyReference
public import proofs.«01_k».proof.Proof.DyRange
public import proofs.«01_k».proof.Proof.Gen.Pre_dy_scale_is_normal
public import Idealize.ShloMosaic.Lib.Pipeline.ValueKit
public import Idealize.ShloMosaic.Lib.Pointwise
public import Idealize.ShloMosaic.Lib.Claim
public import Idealize.ShloMosaic.Lib.Tactic.CleanTypes
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

/-! # dY: from equal arguments the kernel and the reference end with equal results -/

namespace Cert.Dy

/-- Where the largest magnitude is in range, the kernel's scales are the reference's. -/
theorem algebraic [hK : Cert.DyIdeal.Facts] [hR : Cert.DyRefIdeal.Facts] [hP : Cert.Pre_dy_scale_is_normal.Facts] :
    algebraic_DyIdeal_DyRefIdeal_pre_dy_scale_is_normal := fun m ρ m' ρ' hpre hag =>
  have hs := fun c => Cert.Scale.scale_eq _ _ (inRange _ (hpre c))
  ⟨_, _,
    (θ_run Cert.DyIdeal.defs _ _).mono (fun r h c => ⟨(h c).1.trans (Cert.DyIdeal.Hand.final_codes m c),
      (h c).2.1.trans (Cert.DyIdeal.Hand.final_scale m c), (h c).2.2⟩)
      (Cert.DyIdeal.Value.run_blocks m ρ),
    (θ_run Cert.DyRefIdeal.defs _ _).mono (fun r h c => ⟨(h c).1.trans (by rw [(hs c).2, Cert.DyRefIdeal.Hand.expo, hag c]),
      (h c).2.1.trans (by rw [(hs c).1, Cert.DyRefIdeal.Hand.expo, hag c]), (h c).2.2⟩)
      (Cert.DyRefIdeal.Hand.run m' ρ')⟩

end Cert.Dy
-- ==== Proof.lean ====
module

public import proofs.«01_k».proof.Defs
public import proofs.«01_k».proof.Proof.Gen.Dw1
public import proofs.«01_k».proof.Proof.Gen.Dw1.Skeleton
public import proofs.«01_k».proof.Proof.Gen.Dw1.Launch
public import proofs.«01_k».proof.Proof.Gen.Dw1.Points
public import proofs.«01_k».proof.Proof.Gen.Dw1.Frame
public import proofs.«01_k».proof.Proof.Gen.Dw1Ideal
public import proofs.«01_k».proof.Proof.Gen.Dw1Ideal.Skeleton
public import proofs.«01_k».proof.Proof.Gen.Dw1Ideal.Launch
public import proofs.«01_k».proof.Proof.Gen.Dw1Ideal.Points
public import proofs.«01_k».proof.Proof.Gen.Dw1Ideal.Frame
public import proofs.«01_k».proof.Proof.Gen.Dw1RefIdeal
public import proofs.«01_k».proof.Proof.Gen.Dw1RefIdeal.Skeleton
public import proofs.«01_k».proof.Proof.Gen.Dw1RefIdeal.Launch
public import proofs.«01_k».proof.Proof.Gen.Dw1RefIdeal.Points
public import proofs.«01_k».proof.Proof.Gen.Dw1RefIdeal.Frame
public import proofs.«01_k».proof.Proof.Gen.Dw2
public import proofs.«01_k».proof.Proof.Gen.Dw2.Skeleton
public import proofs.«01_k».proof.Proof.Gen.Dw2.Launch
public import proofs.«01_k».proof.Proof.Gen.Dw2.Points
public import proofs.«01_k».proof.Proof.Gen.Dw2.Frame
public import proofs.«01_k».proof.Proof.Gen.Dw2Ideal
public import proofs.«01_k».proof.Proof.Gen.Dw2Ideal.Skeleton
public import proofs.«01_k».proof.Proof.Gen.Dw2Ideal.Launch
public import proofs.«01_k».proof.Proof.Gen.Dw2Ideal.Points
public import proofs.«01_k».proof.Proof.Gen.Dw2Ideal.Frame
public import proofs.«01_k».proof.Proof.Gen.Dw2RefIdeal
public import proofs.«01_k».proof.Proof.Gen.Dw2RefIdeal.Skeleton
public import proofs.«01_k».proof.Proof.Gen.Dw2RefIdeal.Launch
public import proofs.«01_k».proof.Proof.Gen.Dw2RefIdeal.Points
public import proofs.«01_k».proof.Proof.Gen.Dw2RefIdeal.Frame
public import proofs.«01_k».proof.Proof.Gen.Dx
public import proofs.«01_k».proof.Proof.Gen.Dx.Skeleton
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame
public import proofs.«01_k».proof.Proof.Gen.DxRefIdeal
public import proofs.«01_k».proof.Proof.Gen.DxRefIdeal.Skeleton
public import proofs.«01_k».proof.Proof.Gen.DxRefIdeal.Launch
public import proofs.«01_k».proof.Proof.Gen.DxRefIdeal.Points
public import proofs.«01_k».proof.Proof.Gen.DxRefIdeal.Frame
public import proofs.«01_k».proof.Proof.Gen.Pre_dh_scale_is_normal
public import proofs.«01_k».proof.Proof.Gen.Pre_dy_scale_is_normal
public import proofs.«01_k».proof.Proof.Gen.DxIdeal.Value
public import proofs.«01_k».proof.Proof.Gen.DxRefIdeal.Value
public import proofs.«01_k».proof.Proof.Gen.Dh
public import proofs.«01_k».proof.Proof.Gen.Dh.Skeleton
public import proofs.«01_k».proof.Proof.Gen.Dh.Launch
public import proofs.«01_k».proof.Proof.Gen.Dh.Points
public import proofs.«01_k».proof.Proof.Gen.Dh.Frame
public import proofs.«01_k».proof.Proof.Gen.DhIdeal
public import proofs.«01_k».proof.Proof.Gen.DhIdeal.Skeleton
public import proofs.«01_k».proof.Proof.Gen.DhIdeal.Launch
public import proofs.«01_k».proof.Proof.Gen.DhIdeal.Points
public import proofs.«01_k».proof.Proof.Gen.DhIdeal.Frame
public import proofs.«01_k».proof.Proof.Gen.DhIdeal.Value
public import proofs.«01_k».proof.Proof.Gen.DhRefIdeal
public import proofs.«01_k».proof.Proof.Gen.DhRefIdeal.Skeleton
public import proofs.«01_k».proof.Proof.Gen.DhRefIdeal.Launch
public import proofs.«01_k».proof.Proof.Gen.DhRefIdeal.Points
public import proofs.«01_k».proof.Proof.Gen.DhRefIdeal.Frame
public import proofs.«01_k».proof.Proof.Gen.DhRefIdeal.Value
public import proofs.«01_k».proof.Proof.Gen.Dy
public import proofs.«01_k».proof.Proof.Gen.Dy.Skeleton
public import proofs.«01_k».proof.Proof.Gen.Dy.Launch
public import proofs.«01_k».proof.Proof.Gen.Dy.Points
public import proofs.«01_k».proof.Proof.Gen.Dy.Frame
public import proofs.«01_k».proof.Proof.Gen.DyIdeal
public import proofs.«01_k».proof.Proof.Gen.DyIdeal.Skeleton
public import proofs.«01_k».proof.Proof.Gen.DyIdeal.Launch
public import proofs.«01_k».proof.Proof.Gen.DyIdeal.Points
public import proofs.«01_k».proof.Proof.Gen.DyIdeal.Frame
public import proofs.«01_k».proof.Proof.Gen.DyIdeal.Value
public import proofs.«01_k».proof.Proof.Gen.DyRefIdeal
public import proofs.«01_k».proof.Proof.Gen.DyRefIdeal.Skeleton
public import proofs.«01_k».proof.Proof.Gen.DyRefIdeal.Launch
public import proofs.«01_k».proof.Proof.Gen.DyRefIdeal.Points
public import proofs.«01_k».proof.Proof.Gen.DyRefIdeal.Frame
public import proofs.«01_k».proof.Proof.Gen.DyRefIdeal.Value
public import proofs.«01_k».proof.Proof.Dw1Values
public import proofs.«01_k».proof.Proof.Dw2Values
public import proofs.«01_k».proof.Proof.Gen.Dw1Ideal.Value
public import proofs.«01_k».proof.Proof.Gen.Dw1RefIdeal.Value
public import proofs.«01_k».proof.Proof.Gen.Dw2Ideal.Value
public import proofs.«01_k».proof.Proof.Gen.Dw2RefIdeal.Value
public import proofs.«01_k».proof.Proof.DxValues
public import proofs.«01_k».proof.Proof.DhValues
public import proofs.«01_k».proof.Proof.DyValues
public import Idealize.ShloMosaic.Adequacy
public import Idealize.ShloMosaic.Init

@[expose] public section

noncomputable section

namespace Cert.Proof

open Idealize.ShloMosaic Idealize.SL.Sem

theorem claim : Cert.Claim := ⟨
  Cert.Dw1.Gen.facts,
  Cert.Dw1Ideal.Gen.facts,
  Cert.Dw1RefIdeal.Gen.facts,
  Cert.Dw2.Gen.facts,
  Cert.Dw2Ideal.Gen.facts,
  Cert.Dw2RefIdeal.Gen.facts,
  Cert.Dx.Gen.facts,
  Cert.DxIdeal.Gen.facts,
  Cert.DxRefIdeal.Gen.facts,
  Cert.Dh.Gen.facts,
  Cert.DhIdeal.Gen.facts,
  Cert.DhRefIdeal.Gen.facts,
  Cert.Dy.Gen.facts,
  Cert.DyIdeal.Gen.facts,
  Cert.DyRefIdeal.Gen.facts,
  Cert.Pre_dh_scale_is_normal.Gen.facts,
  Cert.Pre_dy_scale_is_normal.Gen.facts,
  fun m ρ _ => Cert.Dw1.Gen.frame m ρ,
  fun m ρ _ => Cert.Dw1Ideal.Gen.frame m ρ,
  fun m ρ _ => Cert.Dw1RefIdeal.Gen.frame m ρ,
  fun m ρ _ => Cert.Dw2.Gen.frame m ρ,
  fun m ρ _ => Cert.Dw2Ideal.Gen.frame m ρ,
  fun m ρ _ => Cert.Dw2RefIdeal.Gen.frame m ρ,
  fun m ρ _ => Cert.Dx.Gen.frame m ρ,
  fun m ρ _ => Cert.DxIdeal.Gen.frame m ρ,
  fun m ρ _ => Cert.DxIdeal.Gen.frame m ρ,
  fun m ρ _ => Cert.DxRefIdeal.Gen.frame m ρ,
  fun m ρ _ => Cert.DxRefIdeal.Gen.frame m ρ,
  fun m ρ _ => Cert.Dh.Gen.frame m ρ,
  fun m ρ _ => Cert.DhIdeal.Gen.frame m ρ,
  fun m ρ _ => Cert.DhRefIdeal.Gen.frame m ρ,
  fun m ρ _ => Cert.Dy.Gen.frame m ρ,
  fun m ρ _ => Cert.DyIdeal.Gen.frame m ρ,
  fun m ρ _ => Cert.DyIdeal.Gen.frame m ρ,
  fun m ρ _ => Cert.DyRefIdeal.Gen.frame m ρ,
  fun m ρ _ => Cert.DyRefIdeal.Gen.frame m ρ,
  trivial,
  Cert.Dw1.algebraic,
  trivial,
  Cert.Dw2.algebraic,
  trivial,
  Cert.Dx.algebraic,
  IdealRules.bf16_pack.statement Cert.DhIdeal.S768x512,
  Cert.Dh.algebraic,
  trivial,
  Cert.Dy.algebraic⟩

end Cert.Proof

end
